-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_on_covered [hKernelIdeal : Cert.KernelIdeal.Facts] [hReferenceIdeal : Cert.ReferenceIdeal.Facts] [hOn_covered : Cert.On_covered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 8192, 2048]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v0_0) i = v0 c i)
          ∧ (∀ i : (⟨2, ![4, 8192]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v0_1) i = v1 c i)
          ∧ (∀ i : (⟨3, ![4, 8192, 2048]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v0_2) i = v2 c i)
          ∧ (∀ i : (⟨3, ![4, 8192, 2048]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 8192, 2048]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v0_0) i = v0 c i)
          ∧ (∀ i : (⟨2, ![4, 8192]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v0_1) i = v1 c i)
          ∧ (∀ i : (⟨3, ![4, 8192, 2048]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v0_2) i = v2 c i)
          ∧ (∀ i : (⟨3, ![4, 8192, 2048]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.ReferenceIdeal.nD Cert.ReferenceIdeal.τ).loc Cert.ReferenceIdeal.main_v0_3) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_covered : Cert.On_covered.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_covered (hKernelIdeal := hKernelIdeal) (hReferenceIdeal := hReferenceIdeal) (hOn_covered := hOn_covered)
-- ==== On_covered.lean ====
abbrev S4 : Shape := ⟨1, ![4]⟩
abbrev S4x8192x2048 : Shape := ⟨3, ![4, 8192, 2048]⟩
abbrev S1x2048 : Shape := ⟨2, ![1, 2048]⟩
abbrev S2048x2048 : Shape := ⟨2, ![2048, 2048]⟩
abbrev S4x1x1 : Shape := ⟨3, ![4, 1, 1]⟩
abbrev S_ : Shape := ⟨0, ![]⟩
abbrev S4x8192 : Shape := ⟨2, ![4, 8192]⟩

class Facts : Prop where
  bcast_S4_S4x1x1_0 : S4.BroadcastsInDim S4x1x1 (![0] : Fin 1 → Fin S4x1x1.rank)
  bcast_S4x1x1_S4x8192x2048_0_1_2 : S4x1x1.BroadcastsInDim S4x8192x2048 (![0, 1, 2] : Fin 3 → Fin S4x8192x2048.rank)
  bcast_S_S4x8192x2048 : S_.BroadcastsInDim S4x8192x2048 (![] : Fin 0 → Fin S4x8192x2048.rank)
  bcast_S_S4x8192 : S_.BroadcastsInDim S4x8192 (![] : Fin 0 → Fin S4x8192.rank)

variable [Facts]

def fn {F : FTy → Type} [FloatOps F] (main_arg0 : IVec S4 32) (main_arg1 : FVec F S4x8192x2048 .bf16) (main_arg2 : FVec F S1x2048 .f32) (main_arg3 : FVec F S2048x2048 .fp8e4m3) (main_arg4 : FVec F S2048x2048 .fp8e4m3) (main_arg5 : FVec F S1x2048 .f32) (main_arg6 : FVec F S1x2048 .f32) : IVec S4x8192x2048 1 × IVec S4x8192 1 × IVec S4x8192x2048 1 × IVec S4x8192x2048 1 :=
  let main_v0 : IVec S4x8192x2048 32 := iotaInDim S4x8192x2048 32 1
  let main_v1 : IVec S4x1x1 32 := broadcastInDim S4x1x1 ![0] bcast_S4_S4x1x1_0 main_arg0
  let main_v2 : IVec S4x8192x2048 32 := broadcastInDim S4x8192x2048 ![0, 1, 2] bcast_S4x1x1_S4x8192x2048_0_1_2 main_v1
  let main_v3 : IVec S4x8192x2048 1 := cmpi .slt main_v0 main_v2
  let main_c : IVec S_ 32 := constantI S_ 32 8192#32
  let main_v4 : IVec S4x8192x2048 32 := broadcastInDim S4x8192x2048 ![] bcast_S_S4x8192x2048 main_c
  let main_v5 : IVec S4x8192x2048 1 := cmpi .sle main_v2 main_v4
  let main_v6 : IVec S4x8192x2048 1 := andi main_v3 main_v5
  let main_c_0 : IVec S_ 1 := constantI S_ 1 1#1
  let main_v7 : IVec S4x8192x2048 1 := broadcastInDim S4x8192x2048 ![] bcast_S_S4x8192x2048 main_c_0
  let main_c_1 : IVec S_ 1 := constantI S_ 1 1#1
  let main_v8 : IVec S4x8192 1 := broadcastInDim S4x8192 ![] bcast_S_S4x8192 main_c_1
  (main_v7, main_v8, main_v6, main_v6)
-- ==== Kernel.lean ====
abbrev S4 : Shape := ⟨1, ![4]⟩
abbrev S4x8192x2048 : Shape := ⟨3, ![4, 8192, 2048]⟩
abbrev S1x2048 : Shape := ⟨2, ![1, 2048]⟩
abbrev S2048x2048 : Shape := ⟨2, ![2048, 2048]⟩
abbrev S4x8192 : Shape := ⟨2, ![4, 8192]⟩
abbrev S1x512x2048 : Shape := ⟨3, ![1, 512, 2048]⟩
abbrev S1 : Shape := ⟨1, ![1]⟩
abbrev S512x2048 : Shape := ⟨2, ![512, 2048]⟩
abbrev S512x128 : Shape := ⟨2, ![512, 128]⟩
abbrev S2048x256 : Shape := ⟨2, ![2048, 256]⟩
abbrev S512x256 : Shape := ⟨2, ![512, 256]⟩
abbrev S1x256 : Shape := ⟨2, ![1, 256]⟩
abbrev S1x512x256 : Shape := ⟨3, ![1, 512, 256]⟩
abbrev S1x32x2048 : Shape := ⟨3, ![1, 32, 2048]⟩
abbrev S32x2048 : Shape := ⟨2, ![32, 2048]⟩
abbrev S32 : Shape := ⟨1, ![32]⟩
abbrev S32x1 : Shape := ⟨2, ![32, 1]⟩
abbrev S32x128 : Shape := ⟨2, ![32, 128]⟩
abbrev S512x1 : Shape := ⟨2, ![512, 1]⟩
abbrev S128x128 : Shape := ⟨2, ![128, 128]⟩
abbrev S128x1 : Shape := ⟨2, ![128, 1]⟩
abbrev S128 : Shape := ⟨1, ![128]⟩
abbrev S1x128 : Shape := ⟨2, ![1, 128]⟩
abbrev S1x512 : Shape := ⟨2, ![1, 512]⟩

abbrev nBuf : Space → Nat
  | .hbm => 10
  | .vmem => 18
  | .smem => 1
  | _ => 0

abbrev bufTy : (tb : Table) → Fin (tcTables nBuf tb) → BufTy
  | .hbm, ⟨0, _⟩ => ⟨S4x8192x2048, .bf16⟩
  | .hbm, ⟨1, _⟩ => ⟨S1x2048, .f32⟩
  | .hbm, ⟨2, _⟩ => ⟨S2048x2048, .fp8e4m3⟩
  | .hbm, ⟨3, _⟩ => ⟨S2048x2048, .fp8e4m3⟩
  | .hbm, ⟨4, _⟩ => ⟨S1x2048, .f32⟩
  | .hbm, ⟨5, _⟩ => ⟨S1x2048, .f32⟩
  | .hbm, ⟨6, _⟩ => ⟨S4x8192x2048, .fp8e4m3⟩
  | .hbm, ⟨7, _⟩ => ⟨S4x8192, .f32⟩
  | .hbm, ⟨8, _⟩ => ⟨S4x8192x2048, .bf16⟩
  | .hbm, ⟨9, _⟩ => ⟨S4x8192x2048, .bf16⟩
  | .local _ .vmem, ⟨0, _⟩ => ⟨S1x512x2048, .bf16⟩
  | .local _ .vmem, ⟨1, _⟩ => ⟨S1x512x2048, .bf16⟩
  | .local _ .vmem, ⟨2, _⟩ => ⟨S1x2048, .f32⟩
  | .local _ .vmem, ⟨3, _⟩ => ⟨S2048x2048, .fp8e4m3⟩
  | .local _ .vmem, ⟨4, _⟩ => ⟨S2048x2048, .fp8e4m3⟩
  | .local _ .vmem, ⟨5, _⟩ => ⟨S1x2048, .f32⟩
  | .local _ .vmem, ⟨6, _⟩ => ⟨S1x2048, .f32⟩
  | .local _ .vmem, ⟨7, _⟩ => ⟨S1x512x2048, .fp8e4m3⟩
  | .local _ .vmem, ⟨8, _⟩ => ⟨S1x512x2048, .fp8e4m3⟩
  | .local _ .vmem, ⟨9, _⟩ => ⟨S4x8192, .f32⟩
  | .local _ .vmem, ⟨10, _⟩ => ⟨S1x512x2048, .bf16⟩
  | .local _ .vmem, ⟨11, _⟩ => ⟨S1x512x2048, .bf16⟩
  | .local _ .vmem, ⟨12, _⟩ => ⟨S1x512x2048, .bf16⟩
  | .local _ .vmem, ⟨13, _⟩ => ⟨S1x512x2048, .bf16⟩
  | .local _ .vmem, ⟨14, _⟩ => ⟨S512x2048, .fp8e4m3⟩
  | .local _ .vmem, ⟨15, _⟩ => ⟨S512x2048, .fp8e4m3⟩
  | .local _ .vmem, ⟨16, _⟩ => ⟨S512x128, .f32⟩
  | .local _ .vmem, ⟨17, _⟩ => ⟨S512x128, .f32⟩
  | .local _ .smem, ⟨0, _⟩ => ⟨S4, .i32⟩
  | _, _ => ⟨S4x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![65], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c16_i32 : BitVec 32 := 16#32
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let v2 : BitVec 32 := Scalar.divsi v1 c16_i32
  let c1_i32_5 : BitVec 32 := 1#32
  let v17 : BitVec 32 := Scalar.subi v2 c1_i32_5
  let v18 : BitVec 32 := Scalar.select v16 v17 v2
  let v19 : Index := Scalar.indexCast v18
  ![v19.toNat]
@[reducible] def k0_t1_loop : Scf.Loop 32 :=
  let c0_i32_35 : BitVec 32 := 0#32
  let c8_i32 : BitVec 32 := 8#32
  let v86 : BitVec 32 := Scalar.addi c0_i32_35 c8_i32
  let c1_i32_36 : BitVec 32 := 1#32
  ⟨c0_i32_35, v86, c1_i32_36⟩
def k0_mult1 (k0_t1 : Fin k0_t1_loop.trips) : BitVec 32 :=
  let c0_i32_35 : BitVec 32 := 0#32
  let c1_i32_36 : BitVec 32 := 1#32
  let arg16 : BitVec 32 := Scf.iv c0_i32_35 c1_i32_36 k0_t1
  let c256_i32 : BitVec 32 := 256#32
  let v153 : BitVec 32 := Scalar.muli arg16 c256_i32
  v153
def k0_off2 (k0_t1 : Fin k0_t1_loop.trips) : Fin 2 → Nat :=
  let c0_66 : Index := 0#32
  let c0_i32_35 : BitVec 32 := 0#32
  let c1_i32_36 : BitVec 32 := 1#32
  let arg16 : BitVec 32 := Scf.iv c0_i32_35 c1_i32_36 k0_t1
  let c256_i32 : BitVec 32 := 256#32
  let v153 : BitVec 32 := Scalar.muli arg16 c256_i32
  let v154 : BitVec 32 := v153
  let v156 : Index := Scalar.indexCast v154
  ![0, v156.toNat]
def k0_off3 (k0_t1 : Fin k0_t1_loop.trips) : Fin 2 → Nat :=
  let c0_70 : Index := 0#32
  let c0_i32_35 : BitVec 32 := 0#32
  let c1_i32_36 : BitVec 32 := 1#32
  let arg16 : BitVec 32 := Scf.iv c0_i32_35 c1_i32_36 k0_t1
  let c256_i32 : BitVec 32 := 256#32
  let v153 : BitVec 32 := Scalar.muli arg16 c256_i32
  let v154 : BitVec 32 := v153
  let v162 : Index := Scalar.indexCast v154
  ![0, v162.toNat]
def k0_off4 (k0_t1 : Fin k0_t1_loop.trips) : Fin 3 → Nat :=
  let c0_71 : Index := 0#32
  let c0_72 : Index := 0#32
  let c0_i32_35 : BitVec 32 := 0#32
  let c1_i32_36 : BitVec 32 := 1#32
  let arg16 : BitVec 32 := Scf.iv c0_i32_35 c1_i32_36 k0_t1
  let c256_i32 : BitVec 32 := 256#32
  let v153 : BitVec 32 := Scalar.muli arg16 c256_i32
  let v154 : BitVec 32 := v153
  let v167 : Index := Scalar.indexCast v154
  ![0, 0, v167.toNat]
def k0_mult2 (k0_t1 : Fin k0_t1_loop.trips) : BitVec 32 :=
  let c0_i32_35 : BitVec 32 := 0#32
  let c1_i32_36 : BitVec 32 := 1#32
  let arg16 : BitVec 32 := Scf.iv c0_i32_35 c1_i32_36 k0_t1
  let c32_i32 : BitVec 32 := 32#32
  let v171 : BitVec 32 := Scalar.muli arg16 c32_i32
  v171
def k0_off5 (k0_t1 : Fin k0_t1_loop.trips) : Fin 3 → Nat :=
  let c0_73 : Index := 0#32
  let c0_i32_35 : BitVec 32 := 0#32
  let c1_i32_36 : BitVec 32 := 1#32
  let arg16 : BitVec 32 := Scf.iv c0_i32_35 c1_i32_36 k0_t1
  let c32_i32 : BitVec 32 := 32#32
  let v171 : BitVec 32 := Scalar.muli arg16 c32_i32
  let v172 : BitVec 32 := v171
  let v173 : Index := Scalar.indexCast v172
  let c0_74 : Index := 0#32
  ![0, v173.toNat, 0]
def k0_off6 (k0_t1 : Fin k0_t1_loop.trips) : Fin 2 → Nat :=
  let c0_i32_35 : BitVec 32 := 0#32
  let c1_i32_36 : BitVec 32 := 1#32
  let arg16 : BitVec 32 := Scf.iv c0_i32_35 c1_i32_36 k0_t1
  let c32_i32 : BitVec 32 := 32#32
  let v171 : BitVec 32 := Scalar.muli arg16 c32_i32
  let v172 : BitVec 32 := v171
  let v221 : Index := Scalar.indexCast v172
  let c0_91 : Index := 0#32
  ![v221.toNat, 0]
def k0_off7 (k0_t1 : Fin k0_t1_loop.trips) : Fin 2 → Nat :=
  let c0_i32_35 : BitVec 32 := 0#32
  let c1_i32_36 : BitVec 32 := 1#32
  let arg16 : BitVec 32 := Scf.iv c0_i32_35 c1_i32_36 k0_t1
  let c32_i32 : BitVec 32 := 32#32
  let v171 : BitVec 32 := Scalar.muli arg16 c32_i32
  let v172 : BitVec 32 := v171
  let v227 : Index := Scalar.indexCast v172
  let c0_92 : Index := 0#32
  ![v227.toNat, 0]
@[reducible] def k0_t2_loop : Scf.Loop 32 :=
  let c0_i32_38 : BitVec 32 := 0#32
  let c8_i32_39 : BitVec 32 := 8#32
  let v87 : BitVec 32 := Scalar.addi c0_i32_38 c8_i32_39
  let c1_i32_40 : BitVec 32 := 1#32
  ⟨c0_i32_38, v87, c1_i32_40⟩
def k0_mult3 (k0_t2 : Fin k0_t2_loop.trips) : BitVec 32 :=
  let c0_i32_38 : BitVec 32 := 0#32
  let c1_i32_40 : BitVec 32 := 1#32
  let arg16 : BitVec 32 := Scf.iv c0_i32_38 c1_i32_40 k0_t2
  let c256_i32 : BitVec 32 := 256#32
  let v153 : BitVec 32 := Scalar.muli arg16 c256_i32
  v153
def k0_off8 (k0_t2 : Fin k0_t2_loop.trips) : Fin 2 → Nat :=
  let c0_66 : Index := 0#32
  let c0_i32_38 : BitVec 32 := 0#32
  let c1_i32_40 : BitVec 32 := 1#32
  let arg16 : BitVec 32 := Scf.iv c0_i32_38 c1_i32_40 k0_t2
  let c256_i32 : BitVec 32 := 256#32
  let v153 : BitVec 32 := Scalar.muli arg16 c256_i32
  let v154 : BitVec 32 := v153
  let v156 : Index := Scalar.indexCast v154
  ![0, v156.toNat]
def k0_off9 (k0_t2 : Fin k0_t2_loop.trips) : Fin 2 → Nat :=
  let c0_70 : Index := 0#32
  let c0_i32_38 : BitVec 32 := 0#32
  let c1_i32_40 : BitVec 32 := 1#32
  let arg16 : BitVec 32 := Scf.iv c0_i32_38 c1_i32_40 k0_t2
  let c256_i32 : BitVec 32 := 256#32
  let v153 : BitVec 32 := Scalar.muli arg16 c256_i32
  let v154 : BitVec 32 := v153
  let v162 : Index := Scalar.indexCast v154
  ![0, v162.toNat]
def k0_off10 (k0_t2 : Fin k0_t2_loop.trips) : Fin 3 → Nat :=
  let c0_71 : Index := 0#32
  let c0_72 : Index := 0#32
  let c0_i32_38 : BitVec 32 := 0#32
  let c1_i32_40 : BitVec 32 := 1#32
  let arg16 : BitVec 32 := Scf.iv c0_i32_38 c1_i32_40 k0_t2
  let c256_i32 : BitVec 32 := 256#32
  let v153 : BitVec 32 := Scalar.muli arg16 c256_i32
  let v154 : BitVec 32 := v153
  let v167 : Index := Scalar.indexCast v154
  ![0, 0, v167.toNat]
def k0_mult4 (k0_t2 : Fin k0_t2_loop.trips) : BitVec 32 :=
  let c8_i32_73 : BitVec 32 := 8#32
  let c0_i32_38 : BitVec 32 := 0#32
  let c1_i32_40 : BitVec 32 := 1#32
  let arg16 : BitVec 32 := Scf.iv c0_i32_38 c1_i32_40 k0_t2
  let v171 : BitVec 32 := Scalar.addi c8_i32_73 arg16
  let c32_i32 : BitVec 32 := 32#32
  let v172 : BitVec 32 := Scalar.muli v171 c32_i32
  v172
def k0_off11 (k0_t2 : Fin k0_t2_loop.trips) : Fin 3 → Nat :=
  let c0_74 : Index := 0#32
  let c8_i32_73 : BitVec 32 := 8#32
  let c0_i32_38 : BitVec 32 := 0#32
  let c1_i32_40 : BitVec 32 := 1#32
  let arg16 : BitVec 32 := Scf.iv c0_i32_38 c1_i32_40 k0_t2
  let v171 : BitVec 32 := Scalar.addi c8_i32_73 arg16
  let c32_i32 : BitVec 32 := 32#32
  let v172 : BitVec 32 := Scalar.muli v171 c32_i32
  let v173 : BitVec 32 := v172
  let v174 : Index := Scalar.indexCast v173
  let c0_75 : Index := 0#32
  ![0, v174.toNat, 0]
def k0_off12 (k0_t2 : Fin k0_t2_loop.trips) : Fin 2 → Nat :=
  let c8_i32_73 : BitVec 32 := 8#32
  let c0_i32_38 : BitVec 32 := 0#32
  let c1_i32_40 : BitVec 32 := 1#32
  let arg16 : BitVec 32 := Scf.iv c0_i32_38 c1_i32_40 k0_t2
  let v171 : BitVec 32 := Scalar.addi c8_i32_73 arg16
  let c32_i32 : BitVec 32 := 32#32
  let v172 : BitVec 32 := Scalar.muli v171 c32_i32
  let v173 : BitVec 32 := v172
  let v222 : Index := Scalar.indexCast v173
  let c0_92 : Index := 0#32
  ![v222.toNat, 0]
def k0_off13 (k0_t2 : Fin k0_t2_loop.trips) : Fin 2 → Nat :=
  let c8_i32_73 : BitVec 32 := 8#32
  let c0_i32_38 : BitVec 32 := 0#32
  let c1_i32_40 : BitVec 32 := 1#32
  let arg16 : BitVec 32 := Scf.iv c0_i32_38 c1_i32_40 k0_t2
  let v171 : BitVec 32 := Scalar.addi c8_i32_73 arg16
  let c32_i32 : BitVec 32 := 32#32
  let v172 : BitVec 32 := Scalar.muli v171 c32_i32
  let v173 : BitVec 32 := v172
  let v228 : Index := Scalar.indexCast v173
  let c0_93 : Index := 0#32
  ![v228.toNat, 0]
def k0_mult5 (i : grid0.Coords) : BitVec 32 :=
  let arg0 : BitVec 32 := BitVec.ofNat 32 (i 0).val
  let c16_i32_50 : BitVec 32 := 16#32
  let c0_i32_51 : BitVec 32 := 0#32
  let v121 : BitVec 1 := Scalar.cmpi .eq c16_i32_50 c0_i32_51
  let c1_i32_52 : BitVec 32 := 1#32
  let v122 : BitVec 32 := Scalar.select v121 c1_i32_52 c16_i32_50
  let v123 : BitVec 32 := Scalar.remsi arg0 v122
  let c0_i32_54 : BitVec 32 := 0#32
  let v125 : BitVec 1 := Scalar.cmpi .slt v123 c0_i32_54
  let c0_i32_55 : BitVec 32 := 0#32
  let v126 : BitVec 1 := Scalar.cmpi .slt v122 c0_i32_55
  let v127 : BitVec 1 := Scalar.xori v125 v126
  let c0_i32_53 : BitVec 32 := 0#32
  let v124 : BitVec 1 := Scalar.cmpi .ne v123 c0_i32_53
  let v128 : BitVec 1 := Scalar.andi v127 v124
  let v129 : BitVec 32 := Scalar.addi v123 v122
  let v130 : BitVec 32 := Scalar.select v128 v129 v123
  let c512_i32_56 : BitVec 32 := 512#32
  let v131 : BitVec 32 := Scalar.muli v130 c512_i32_56
  v131
def k0_off14 (i : grid0.Coords) : Fin 2 → Nat :=
  let arg0 : BitVec 32 := BitVec.ofNat 32 (i 0).val
  let c0_i32_58 : BitVec 32 := 0#32
  let v134 : BitVec 1 := Scalar.cmpi .sgt arg0 c0_i32_58
  let v135 : BitVec 32 := Scalar.extui v134
  let c0_i32_59 : BitVec 32 := 0#32
  let v136 : BitVec 1 := Scalar.cmpi .slt arg0 c0_i32_59
  let v137 : BitVec 32 := Scalar.extui v136
  let v138 : BitVec 32 := Scalar.subi v135 v137
  let c16_i32_57 : BitVec 32 := 16#32
  let c0_i32_60 : BitVec 32 := 0#32
  let v139 : BitVec 1 := Scalar.cmpi .sgt c16_i32_57 c0_i32_60
  let v140 : BitVec 32 := Scalar.extui v139
  let c0_i32_61 : BitVec 32 := 0#32
  let v141 : BitVec 1 := Scalar.cmpi .slt c16_i32_57 c0_i32_61
  let v142 : BitVec 32 := Scalar.extui v141
  let v143 : BitVec 32 := Scalar.subi v140 v142
  let v144 : BitVec 1 := Scalar.cmpi .ne v138 v143
  let v145 : BitVec 32 := Scalar.remsi arg0 c16_i32_57
  let c0_i32_62 : BitVec 32 := 0#32
  let v146 : BitVec 1 := Scalar.cmpi .ne v145 c0_i32_62
  let v147 : BitVec 1 := Scalar.andi v144 v146
  let v133 : BitVec 32 := Scalar.divsi arg0 c16_i32_57
  let c1_i32_63 : BitVec 32 := 1#32
  let v148 : BitVec 32 := Scalar.subi v133 c1_i32_63
  let v149 : BitVec 32 := Scalar.select v147 v148 v133
  let v150 : Index := Scalar.indexCast v149
  let c16_i32_50 : BitVec 32 := 16#32
  let c0_i32_51 : BitVec 32 := 0#32
  let v121 : BitVec 1 := Scalar.cmpi .eq c16_i32_50 c0_i32_51
  let c1_i32_52 : BitVec 32 := 1#32
  let v122 : BitVec 32 := Scalar.select v121 c1_i32_52 c16_i32_50
  let v123 : BitVec 32 := Scalar.remsi arg0 v122
  let c0_i32_54 : BitVec 32 := 0#32
  let v125 : BitVec 1 := Scalar.cmpi .slt v123 c0_i32_54
  let c0_i32_55 : BitVec 32 := 0#32
  let v126 : BitVec 1 := Scalar.cmpi .slt v122 c0_i32_55
  let v127 : BitVec 1 := Scalar.xori v125 v126
  let c0_i32_53 : BitVec 32 := 0#32
  let v124 : BitVec 1 := Scalar.cmpi .ne v123 c0_i32_53
  let v128 : BitVec 1 := Scalar.andi v127 v124
  let v129 : BitVec 32 := Scalar.addi v123 v122
  let v130 : BitVec 32 := Scalar.select v128 v129 v123
  let c512_i32_56 : BitVec 32 := 512#32
  let v131 : BitVec 32 := Scalar.muli v130 c512_i32_56
  let v132 : BitVec 32 := v131
  let v151 : Index := Scalar.indexCast v132
  ![v150.toNat, v151.toNat]
def k0_cond1 (i : grid0.Coords) (v32 : BitVec 32) : BitVec 1 :=
  let arg0 : BitVec 32 := BitVec.ofNat 32 (i 0).val
  let c2_i32 : BitVec 32 := 2#32
  let c0_i32_13 : BitVec 32 := 0#32
  let v36 : BitVec 1 := Scalar.cmpi .eq c2_i32 c0_i32_13
  let c1_i32_14 : BitVec 32 := 1#32
  let v37 : BitVec 32 := Scalar.select v36 c1_i32_14 c2_i32
  let v38 : BitVec 32 := Scalar.remsi arg0 v37
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let c0_i32_15 : BitVec 32 := 0#32
  let v39 : BitVec 1 := Scalar.cmpi .ne v38 c0_i32_15
  let v43 : BitVec 1 := Scalar.andi v42 v39
  let v44 : BitVec 32 := Scalar.addi v38 v37
  let v45 : BitVec 32 := Scalar.select v43 v44 v38
  let c0_i32_18 : BitVec 32 := 0#32
  let v46 : BitVec 1 := Scalar.cmpi .eq v45 c0_i32_18
  let c64_i32 : BitVec 32 := 64#32
  let v0 : BitVec 1 := Scalar.cmpi .slt arg0 c64_i32
  let v47 : BitVec 1 := Scalar.andi v46 v0
  let c0_i32_12 : BitVec 32 := 0#32
  let v34 : BitVec 1 := Scalar.cmpi .sgt arg0 c0_i32_12
  let c1_i32 : BitVec 32 := 1#32
  let v1 : BitVec 32 := Scalar.subi arg0 c1_i32
  let c0_i32 : BitVec 32 := 0#32
  let v2 : BitVec 32 := Scalar.maxsi v1 c0_i32
  let c16_i32 : BitVec 32 := 16#32
  let c0_i32_0 : BitVec 32 := 0#32
  let v3 : BitVec 1 := Scalar.cmpi .eq c16_i32 c0_i32_0
  let c1_i32_1 : BitVec 32 := 1#32
  let v4 : BitVec 32 := Scalar.select v3 c1_i32_1 c16_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c512_i32 : BitVec 32 := 512#32
  let v13 : BitVec 32 := Scalar.muli v12 c512_i32
  let v33 : BitVec 1 := Scalar.cmpi .slt v13 v32
  let v35 : BitVec 1 := Scalar.andi v34 v33
  let v48 : BitVec 1 := Scalar.andi v47 v35
  let v49 : BitVec 32 := Scalar.extui v48
  let c0_i32_19 : BitVec 32 := 0#32
  let v50 : BitVec 1 := Scalar.cmpi .ne v49 c0_i32_19
  v50

@[reducible] def k0_t3_loop : Scf.Loop 32 :=
  let c0_i32_35 : BitVec 32 := 0#32
  let c16_i32_36 : BitVec 32 := 16#32
  let v86 : BitVec 32 := Scalar.addi c0_i32_35 c16_i32_36
  let c1_i32_37 : BitVec 32 := 1#32
  ⟨c0_i32_35, v86, c1_i32_37⟩
def k0_mult6 (k0_t3 : Fin k0_t3_loop.trips) : BitVec 32 :=
  let c0_i32_35 : BitVec 32 := 0#32
  let c1_i32_37 : BitVec 32 := 1#32
  let arg16 : BitVec 32 := Scf.iv c0_i32_35 c1_i32_37 k0_t3
  let c32_i32 : BitVec 32 := 32#32
  let v152 : BitVec 32 := Scalar.muli arg16 c32_i32
  v152
def k0_off15 (k0_t3 : Fin k0_t3_loop.trips) : Fin 3 → Nat :=
  let c0_61 : Index := 0#32
  let c0_i32_35 : BitVec 32 := 0#32
  let c1_i32_37 : BitVec 32 := 1#32
  let arg16 : BitVec 32 := Scf.iv c0_i32_35 c1_i32_37 k0_t3
  let c32_i32 : BitVec 32 := 32#32
  let v152 : BitVec 32 := Scalar.muli arg16 c32_i32
  let v153 : BitVec 32 := v152
  let v154 : Index := Scalar.indexCast v153
  let c0_62 : Index := 0#32
  ![0, v154.toNat, 0]
def k0_off16 (k0_t3 : Fin k0_t3_loop.trips) : Fin 2 → Nat :=
  let c0_i32_35 : BitVec 32 := 0#32
  let c1_i32_37 : BitVec 32 := 1#32
  let arg16 : BitVec 32 := Scf.iv c0_i32_35 c1_i32_37 k0_t3
  let c32_i32 : BitVec 32 := 32#32
  let v152 : BitVec 32 := Scalar.muli arg16 c32_i32
  let v153 : BitVec 32 := v152
  let v202 : Index := Scalar.indexCast v153
  let c0_79 : Index := 0#32
  ![v202.toNat, 0]
def k0_off17 (k0_t3 : Fin k0_t3_loop.trips) : Fin 2 → Nat :=
  let c0_i32_35 : BitVec 32 := 0#32
  let c1_i32_37 : BitVec 32 := 1#32
  let arg16 : BitVec 32 := Scf.iv c0_i32_35 c1_i32_37 k0_t3
  let c32_i32 : BitVec 32 := 32#32
  let v152 : BitVec 32 := Scalar.muli arg16 c32_i32
  let v153 : BitVec 32 := v152
  let v208 : Index := Scalar.indexCast v153
  let c0_80 : Index := 0#32
  ![v208.toNat, 0]
def k0_mult7 (i : grid0.Coords) : BitVec 32 :=
  let arg0 : BitVec 32 := BitVec.ofNat 32 (i 0).val
  let c16_i32_47 : BitVec 32 := 16#32
  let c0_i32_48 : BitVec 32 := 0#32
  let v120 : BitVec 1 := Scalar.cmpi .eq c16_i32_47 c0_i32_48
  let c1_i32_49 : BitVec 32 := 1#32
  let v121 : BitVec 32 := Scalar.select v120 c1_i32_49 c16_i32_47
  let v122 : BitVec 32 := Scalar.remsi arg0 v121
  let c0_i32_51 : BitVec 32 := 0#32
  let v124 : BitVec 1 := Scalar.cmpi .slt v122 c0_i32_51
  let c0_i32_52 : BitVec 32 := 0#32
  let v125 : BitVec 1 := Scalar.cmpi .slt v121 c0_i32_52
  let v126 : BitVec 1 := Scalar.xori v124 v125
  let c0_i32_50 : BitVec 32 := 0#32
  let v123 : BitVec 1 := Scalar.cmpi .ne v122 c0_i32_50
  let v127 : BitVec 1 := Scalar.andi v126 v123
  let v128 : BitVec 32 := Scalar.addi v122 v121
  let v129 : BitVec 32 := Scalar.select v127 v128 v122
  let c512_i32_53 : BitVec 32 := 512#32
  let v130 : BitVec 32 := Scalar.muli v129 c512_i32_53
  v130
def k0_off18 (i : grid0.Coords) : Fin 2 → Nat :=
  let arg0 : BitVec 32 := BitVec.ofNat 32 (i 0).val
  let c0_i32_55 : BitVec 32 := 0#32
  let v133 : BitVec 1 := Scalar.cmpi .sgt arg0 c0_i32_55
  let v134 : BitVec 32 := Scalar.extui v133
  let c0_i32_56 : BitVec 32 := 0#32
  let v135 : BitVec 1 := Scalar.cmpi .slt arg0 c0_i32_56
  let v136 : BitVec 32 := Scalar.extui v135
  let v137 : BitVec 32 := Scalar.subi v134 v136
  let c16_i32_54 : BitVec 32 := 16#32
  let c0_i32_57 : BitVec 32 := 0#32
  let v138 : BitVec 1 := Scalar.cmpi .sgt c16_i32_54 c0_i32_57
  let v139 : BitVec 32 := Scalar.extui v138
  let c0_i32_58 : BitVec 32 := 0#32
  let v140 : BitVec 1 := Scalar.cmpi .slt c16_i32_54 c0_i32_58
  let v141 : BitVec 32 := Scalar.extui v140
  let v142 : BitVec 32 := Scalar.subi v139 v141
  let v143 : BitVec 1 := Scalar.cmpi .ne v137 v142
  let v144 : BitVec 32 := Scalar.remsi arg0 c16_i32_54
  let c0_i32_59 : BitVec 32 := 0#32
  let v145 : BitVec 1 := Scalar.cmpi .ne v144 c0_i32_59
  let v146 : BitVec 1 := Scalar.andi v143 v145
  let v132 : BitVec 32 := Scalar.divsi arg0 c16_i32_54
  let c1_i32_60 : BitVec 32 := 1#32
  let v147 : BitVec 32 := Scalar.subi v132 c1_i32_60
  let v148 : BitVec 32 := Scalar.select v146 v147 v132
  let v149 : Index := Scalar.indexCast v148
  let c16_i32_47 : BitVec 32 := 16#32
  let c0_i32_48 : BitVec 32 := 0#32
  let v120 : BitVec 1 := Scalar.cmpi .eq c16_i32_47 c0_i32_48
  let c1_i32_49 : BitVec 32 := 1#32
  let v121 : BitVec 32 := Scalar.select v120 c1_i32_49 c16_i32_47
  let v122 : BitVec 32 := Scalar.remsi arg0 v121
  let c0_i32_51 : BitVec 32 := 0#32
  let v124 : BitVec 1 := Scalar.cmpi .slt v122 c0_i32_51
  let c0_i32_52 : BitVec 32 := 0#32
  let v125 : BitVec 1 := Scalar.cmpi .slt v121 c0_i32_52
  let v126 : BitVec 1 := Scalar.xori v124 v125
  let c0_i32_50 : BitVec 32 := 0#32
  let v123 : BitVec 1 := Scalar.cmpi .ne v122 c0_i32_50
  let v127 : BitVec 1 := Scalar.andi v126 v123
  let v128 : BitVec 32 := Scalar.addi v122 v121
  let v129 : BitVec 32 := Scalar.select v127 v128 v122
  let c512_i32_53 : BitVec 32 := 512#32
  let v130 : BitVec 32 := Scalar.muli v129 c512_i32_53
  let v131 : BitVec 32 := v130
  let v150 : Index := Scalar.indexCast v131
  ![v149.toNat, v150.toNat]
def k0_cond2 (i : grid0.Coords) (v32 : BitVec 32) : BitVec 1 :=
  let arg0 : BitVec 32 := BitVec.ofNat 32 (i 0).val
  let c2_i32 : BitVec 32 := 2#32
  let c0_i32_13 : BitVec 32 := 0#32
  let v36 : BitVec 1 := Scalar.cmpi .eq c2_i32 c0_i32_13
  let c1_i32_14 : BitVec 32 := 1#32
  let v37 : BitVec 32 := Scalar.select v36 c1_i32_14 c2_i32
  let v38 : BitVec 32 := Scalar.remsi arg0 v37
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let c0_i32_15 : BitVec 32 := 0#32
  let v39 : BitVec 1 := Scalar.cmpi .ne v38 c0_i32_15
  let v43 : BitVec 1 := Scalar.andi v42 v39
  let v44 : BitVec 32 := Scalar.addi v38 v37
  let v45 : BitVec 32 := Scalar.select v43 v44 v38
  let c0_i32_18 : BitVec 32 := 0#32
  let v46 : BitVec 1 := Scalar.cmpi .eq v45 c0_i32_18
  let c64_i32 : BitVec 32 := 64#32
  let v0 : BitVec 1 := Scalar.cmpi .slt arg0 c64_i32
  let v51 : BitVec 1 := Scalar.andi v46 v0
  let c0_i32_12 : BitVec 32 := 0#32
  let v34 : BitVec 1 := Scalar.cmpi .sgt arg0 c0_i32_12
  let c1_i32 : BitVec 32 := 1#32
  let v1 : BitVec 32 := Scalar.subi arg0 c1_i32
  let c0_i32 : BitVec 32 := 0#32
  let v2 : BitVec 32 := Scalar.maxsi v1 c0_i32
  let c16_i32 : BitVec 32 := 16#32
  let c0_i32_0 : BitVec 32 := 0#32
  let v3 : BitVec 1 := Scalar.cmpi .eq c16_i32 c0_i32_0
  let c1_i32_1 : BitVec 32 := 1#32
  let v4 : BitVec 32 := Scalar.select v3 c1_i32_1 c16_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c512_i32 : BitVec 32 := 512#32
  let v13 : BitVec 32 := Scalar.muli v12 c512_i32
  let v33 : BitVec 1 := Scalar.cmpi .slt v13 v32
  let v35 : BitVec 1 := Scalar.andi v34 v33
  let v_true : BitVec 1 := 1#1
  let v52 : BitVec 1 := Scalar.xori v35 v_true
  let v53 : BitVec 1 := Scalar.andi v51 v52
  let v54 : BitVec 32 := Scalar.extui v53
  let c0_i32_20 : BitVec 32 := 0#32
  let v55 : BitVec 1 := Scalar.cmpi .ne v54 c0_i32_20
  v55

@[reducible] def k0_t4_loop : Scf.Loop 32 :=
  let c0_i32_35 : BitVec 32 := 0#32
  let c8_i32 : BitVec 32 := 8#32
  let v86 : BitVec 32 := Scalar.addi c0_i32_35 c8_i32
  let c1_i32_36 : BitVec 32 := 1#32
  ⟨c0_i32_35, v86, c1_i32_36⟩
def k0_mult8 (k0_t4 : Fin k0_t4_loop.trips) : BitVec 32 :=
  let c0_i32_35 : BitVec 32 := 0#32
  let c1_i32_36 : BitVec 32 := 1#32
  let arg16 : BitVec 32 := Scf.iv c0_i32_35 c1_i32_36 k0_t4
  let c256_i32 : BitVec 32 := 256#32
  let v88 : BitVec 32 := Scalar.muli arg16 c256_i32
  v88
def k0_off19 (k0_t4 : Fin k0_t4_loop.trips) : Fin 2 → Nat :=
  let c0_43 : Index := 0#32
  let c0_i32_35 : BitVec 32 := 0#32
  let c1_i32_36 : BitVec 32 := 1#32
  let arg16 : BitVec 32 := Scf.iv c0_i32_35 c1_i32_36 k0_t4
  let c256_i32 : BitVec 32 := 256#32
  let v88 : BitVec 32 := Scalar.muli arg16 c256_i32
  let v89 : BitVec 32 := v88
  let v91 : Index := Scalar.indexCast v89
  ![0, v91.toNat]
def k0_off20 (k0_t4 : Fin k0_t4_loop.trips) : Fin 2 → Nat :=
  let c0_46 : Index := 0#32
  let c0_i32_35 : BitVec 32 := 0#32
  let c1_i32_36 : BitVec 32 := 1#32
  let arg16 : BitVec 32 := Scf.iv c0_i32_35 c1_i32_36 k0_t4
  let c256_i32 : BitVec 32 := 256#32
  let v88 : BitVec 32 := Scalar.muli arg16 c256_i32
  let v89 : BitVec 32 := v88
  let v97 : Index := Scalar.indexCast v89
  ![0, v97.toNat]
def k0_off21 (k0_t4 : Fin k0_t4_loop.trips) : Fin 3 → Nat :=
  let c0_47 : Index := 0#32
  let c0_48 : Index := 0#32
  let c0_i32_35 : BitVec 32 := 0#32
  let c1_i32_36 : BitVec 32 := 1#32
  let arg16 : BitVec 32 := Scf.iv c0_i32_35 c1_i32_36 k0_t4
  let c256_i32 : BitVec 32 := 256#32
  let v88 : BitVec 32 := Scalar.muli arg16 c256_i32
  let v89 : BitVec 32 := v88
  let v102 : Index := Scalar.indexCast v89
  ![0, 0, v102.toNat]
@[reducible] def k0_t5_loop : Scf.Loop 32 :=
  let c0_i32_38 : BitVec 32 := 0#32
  let c8_i32_39 : BitVec 32 := 8#32
  let v87 : BitVec 32 := Scalar.addi c0_i32_38 c8_i32_39
  let c1_i32_40 : BitVec 32 := 1#32
  ⟨c0_i32_38, v87, c1_i32_40⟩
def k0_mult9 (k0_t5 : Fin k0_t5_loop.trips) : BitVec 32 :=
  let c0_i32_38 : BitVec 32 := 0#32
  let c1_i32_40 : BitVec 32 := 1#32
  let arg16 : BitVec 32 := Scf.iv c0_i32_38 c1_i32_40 k0_t5
  let c256_i32 : BitVec 32 := 256#32
  let v88 : BitVec 32 := Scalar.muli arg16 c256_i32
  v88
def k0_off22 (k0_t5 : Fin k0_t5_loop.trips) : Fin 2 → Nat :=
  let c0_43 : Index := 0#32
  let c0_i32_38 : BitVec 32 := 0#32
  let c1_i32_40 : BitVec 32 := 1#32
  let arg16 : BitVec 32 := Scf.iv c0_i32_38 c1_i32_40 k0_t5
  let c256_i32 : BitVec 32 := 256#32
  let v88 : BitVec 32 := Scalar.muli arg16 c256_i32
  let v89 : BitVec 32 := v88
  let v91 : Index := Scalar.indexCast v89
  ![0, v91.toNat]
def k0_off23 (k0_t5 : Fin k0_t5_loop.trips) : Fin 2 → Nat :=
  let c0_46 : Index := 0#32
  let c0_i32_38 : BitVec 32 := 0#32
  let c1_i32_40 : BitVec 32 := 1#32
  let arg16 : BitVec 32 := Scf.iv c0_i32_38 c1_i32_40 k0_t5
  let c256_i32 : BitVec 32 := 256#32
  let v88 : BitVec 32 := Scalar.muli arg16 c256_i32
  let v89 : BitVec 32 := v88
  let v97 : Index := Scalar.indexCast v89
  ![0, v97.toNat]
def k0_off24 (k0_t5 : Fin k0_t5_loop.trips) : Fin 3 → Nat :=
  let c0_47 : Index := 0#32
  let c0_48 : Index := 0#32
  let c0_i32_38 : BitVec 32 := 0#32
  let c1_i32_40 : BitVec 32 := 1#32
  let arg16 : BitVec 32 := Scf.iv c0_i32_38 c1_i32_40 k0_t5
  let c256_i32 : BitVec 32 := 256#32
  let v88 : BitVec 32 := Scalar.muli arg16 c256_i32
  let v89 : BitVec 32 := v88
  let v102 : Index := Scalar.indexCast v89
  ![0, 0, v102.toNat]
@[reducible] def k0_t6_loop : Scf.Loop 32 :=
  let c0_i32_35 : BitVec 32 := 0#32
  let c8_i32 : BitVec 32 := 8#32
  let v86 : BitVec 32 := Scalar.addi c0_i32_35 c8_i32
  let c1_i32_36 : BitVec 32 := 1#32
  ⟨c0_i32_35, v86, c1_i32_36⟩
def k0_mult10 (k0_t6 : Fin k0_t6_loop.trips) : BitVec 32 :=
  let c0_i32_35 : BitVec 32 := 0#32
  let c1_i32_36 : BitVec 32 := 1#32
  let arg16 : BitVec 32 := Scf.iv c0_i32_35 c1_i32_36 k0_t6
  let c256_i32 : BitVec 32 := 256#32
  let v153 : BitVec 32 := Scalar.muli arg16 c256_i32
  v153
def k0_off25 (k0_t6 : Fin k0_t6_loop.trips) : Fin 2 → Nat :=
  let c0_66 : Index := 0#32
  let c0_i32_35 : BitVec 32 := 0#32
  let c1_i32_36 : BitVec 32 := 1#32
  let arg16 : BitVec 32 := Scf.iv c0_i32_35 c1_i32_36 k0_t6
  let c256_i32 : BitVec 32 := 256#32
  let v153 : BitVec 32 := Scalar.muli arg16 c256_i32
  let v154 : BitVec 32 := v153
  let v156 : Index := Scalar.indexCast v154
  ![0, v156.toNat]
def k0_off26 (k0_t6 : Fin k0_t6_loop.trips) : Fin 2 → Nat :=
  let c0_70 : Index := 0#32
  let c0_i32_35 : BitVec 32 := 0#32
  let c1_i32_36 : BitVec 32 := 1#32
  let arg16 : BitVec 32 := Scf.iv c0_i32_35 c1_i32_36 k0_t6
  let c256_i32 : BitVec 32 := 256#32
  let v153 : BitVec 32 := Scalar.muli arg16 c256_i32
  let v154 : BitVec 32 := v153
  let v162 : Index := Scalar.indexCast v154
  ![0, v162.toNat]
def k0_off27 (k0_t6 : Fin k0_t6_loop.trips) : Fin 3 → Nat :=
  let c0_71 : Index := 0#32
  let c0_72 : Index := 0#32
  let c0_i32_35 : BitVec 32 := 0#32
  let c1_i32_36 : BitVec 32 := 1#32
  let arg16 : BitVec 32 := Scf.iv c0_i32_35 c1_i32_36 k0_t6
  let c256_i32 : BitVec 32 := 256#32
  let v153 : BitVec 32 := Scalar.muli arg16 c256_i32
  let v154 : BitVec 32 := v153
  let v167 : Index := Scalar.indexCast v154
  ![0, 0, v167.toNat]
def k0_mult11 (k0_t6 : Fin k0_t6_loop.trips) : BitVec 32 :=
  let c0_i32_35 : BitVec 32 := 0#32
  let c1_i32_36 : BitVec 32 := 1#32
  let arg16 : BitVec 32 := Scf.iv c0_i32_35 c1_i32_36 k0_t6
  let c32_i32 : BitVec 32 := 32#32
  let v171 : BitVec 32 := Scalar.muli arg16 c32_i32
  v171
def k0_off28 (k0_t6 : Fin k0_t6_loop.trips) : Fin 3 → Nat :=
  let c0_73 : Index := 0#32
  let c0_i32_35 : BitVec 32 := 0#32
  let c1_i32_36 : BitVec 32 := 1#32
  let arg16 : BitVec 32 := Scf.iv c0_i32_35 c1_i32_36 k0_t6
  let c32_i32 : BitVec 32 := 32#32
  let v171 : BitVec 32 := Scalar.muli arg16 c32_i32
  let v172 : BitVec 32 := v171
  let v173 : Index := Scalar.indexCast v172
  let c0_74 : Index := 0#32
  ![0, v173.toNat, 0]
def k0_off29 (k0_t6 : Fin k0_t6_loop.trips) : Fin 2 → Nat :=
  let c0_i32_35 : BitVec 32 := 0#32
  let c1_i32_36 : BitVec 32 := 1#32
  let arg16 : BitVec 32 := Scf.iv c0_i32_35 c1_i32_36 k0_t6
  let c32_i32 : BitVec 32 := 32#32
  let v171 : BitVec 32 := Scalar.muli arg16 c32_i32
  let v172 : BitVec 32 := v171
  let v221 : Index := Scalar.indexCast v172
  let c0_91 : Index := 0#32
  ![v221.toNat, 0]
def k0_off30 (k0_t6 : Fin k0_t6_loop.trips) : Fin 2 → Nat :=
  let c0_i32_35 : BitVec 32 := 0#32
  let c1_i32_36 : BitVec 32 := 1#32
  let arg16 : BitVec 32 := Scf.iv c0_i32_35 c1_i32_36 k0_t6
  let c32_i32 : BitVec 32 := 32#32
  let v171 : BitVec 32 := Scalar.muli arg16 c32_i32
  let v172 : BitVec 32 := v171
  let v227 : Index := Scalar.indexCast v172
  let c0_92 : Index := 0#32
  ![v227.toNat, 0]
@[reducible] def k0_t7_loop : Scf.Loop 32 :=
  let c0_i32_38 : BitVec 32 := 0#32
  let c8_i32_39 : BitVec 32 := 8#32
  let v87 : BitVec 32 := Scalar.addi c0_i32_38 c8_i32_39
  let c1_i32_40 : BitVec 32 := 1#32
  ⟨c0_i32_38, v87, c1_i32_40⟩
def k0_mult12 (k0_t7 : Fin k0_t7_loop.trips) : BitVec 32 :=
  let c0_i32_38 : BitVec 32 := 0#32
  let c1_i32_40 : BitVec 32 := 1#32
  let arg16 : BitVec 32 := Scf.iv c0_i32_38 c1_i32_40 k0_t7
  let c256_i32 : BitVec 32 := 256#32
  let v153 : BitVec 32 := Scalar.muli arg16 c256_i32
  v153
def k0_off31 (k0_t7 : Fin k0_t7_loop.trips) : Fin 2 → Nat :=
  let c0_66 : Index := 0#32
  let c0_i32_38 : BitVec 32 := 0#32
  let c1_i32_40 : BitVec 32 := 1#32
  let arg16 : BitVec 32 := Scf.iv c0_i32_38 c1_i32_40 k0_t7
  let c256_i32 : BitVec 32 := 256#32
  let v153 : BitVec 32 := Scalar.muli arg16 c256_i32
  let v154 : BitVec 32 := v153
  let v156 : Index := Scalar.indexCast v154
  ![0, v156.toNat]
def k0_off32 (k0_t7 : Fin k0_t7_loop.trips) : Fin 2 → Nat :=
  let c0_70 : Index := 0#32
  let c0_i32_38 : BitVec 32 := 0#32
  let c1_i32_40 : BitVec 32 := 1#32
  let arg16 : BitVec 32 := Scf.iv c0_i32_38 c1_i32_40 k0_t7
  let c256_i32 : BitVec 32 := 256#32
  let v153 : BitVec 32 := Scalar.muli arg16 c256_i32
  let v154 : BitVec 32 := v153
  let v162 : Index := Scalar.indexCast v154
  ![0, v162.toNat]
def k0_off33 (k0_t7 : Fin k0_t7_loop.trips) : Fin 3 → Nat :=
  let c0_71 : Index := 0#32
  let c0_72 : Index := 0#32
  let c0_i32_38 : BitVec 32 := 0#32
  let c1_i32_40 : BitVec 32 := 1#32
  let arg16 : BitVec 32 := Scf.iv c0_i32_38 c1_i32_40 k0_t7
  let c256_i32 : BitVec 32 := 256#32
  let v153 : BitVec 32 := Scalar.muli arg16 c256_i32
  let v154 : BitVec 32 := v153
  let v167 : Index := Scalar.indexCast v154
  ![0, 0, v167.toNat]
def k0_mult13 (k0_t7 : Fin k0_t7_loop.trips) : BitVec 32 :=
  let c8_i32_73 : BitVec 32 := 8#32
  let c0_i32_38 : BitVec 32 := 0#32
  let c1_i32_40 : BitVec 32 := 1#32
  let arg16 : BitVec 32 := Scf.iv c0_i32_38 c1_i32_40 k0_t7
  let v171 : BitVec 32 := Scalar.addi c8_i32_73 arg16
  let c32_i32 : BitVec 32 := 32#32
  let v172 : BitVec 32 := Scalar.muli v171 c32_i32
  v172
def k0_off34 (k0_t7 : Fin k0_t7_loop.trips) : Fin 3 → Nat :=
  let c0_74 : Index := 0#32
  let c8_i32_73 : BitVec 32 := 8#32
  let c0_i32_38 : BitVec 32 := 0#32
  let c1_i32_40 : BitVec 32 := 1#32
  let arg16 : BitVec 32 := Scf.iv c0_i32_38 c1_i32_40 k0_t7
  let v171 : BitVec 32 := Scalar.addi c8_i32_73 arg16
  let c32_i32 : BitVec 32 := 32#32
  let v172 : BitVec 32 := Scalar.muli v171 c32_i32
  let v173 : BitVec 32 := v172
  let v174 : Index := Scalar.indexCast v173
  let c0_75 : Index := 0#32
  ![0, v174.toNat, 0]
def k0_off35 (k0_t7 : Fin k0_t7_loop.trips) : Fin 2 → Nat :=
  let c8_i32_73 : BitVec 32 := 8#32
  let c0_i32_38 : BitVec 32 := 0#32
  let c1_i32_40 : BitVec 32 := 1#32
  let arg16 : BitVec 32 := Scf.iv c0_i32_38 c1_i32_40 k0_t7
  let v171 : BitVec 32 := Scalar.addi c8_i32_73 arg16
  let c32_i32 : BitVec 32 := 32#32
  let v172 : BitVec 32 := Scalar.muli v171 c32_i32
  let v173 : BitVec 32 := v172
  let v222 : Index := Scalar.indexCast v173
  let c0_92 : Index := 0#32
  ![v222.toNat, 0]
def k0_off36 (k0_t7 : Fin k0_t7_loop.trips) : Fin 2 → Nat :=
  let c8_i32_73 : BitVec 32 := 8#32
  let c0_i32_38 : BitVec 32 := 0#32
  let c1_i32_40 : BitVec 32 := 1#32
  let arg16 : BitVec 32 := Scf.iv c0_i32_38 c1_i32_40 k0_t7
  let v171 : BitVec 32 := Scalar.addi c8_i32_73 arg16
  let c32_i32 : BitVec 32 := 32#32
  let v172 : BitVec 32 := Scalar.muli v171 c32_i32
  let v173 : BitVec 32 := v172
  let v228 : Index := Scalar.indexCast v173
  let c0_93 : Index := 0#32
  ![v228.toNat, 0]
def k0_mult14 (i : grid0.Coords) : BitVec 32 :=
  let arg0 : BitVec 32 := BitVec.ofNat 32 (i 0).val
  let c16_i32_50 : BitVec 32 := 16#32
  let c0_i32_51 : BitVec 32 := 0#32
  let v121 : BitVec 1 := Scalar.cmpi .eq c16_i32_50 c0_i32_51
  let c1_i32_52 : BitVec 32 := 1#32
  let v122 : BitVec 32 := Scalar.select v121 c1_i32_52 c16_i32_50
  let v123 : BitVec 32 := Scalar.remsi arg0 v122
  let c0_i32_54 : BitVec 32 := 0#32
  let v125 : BitVec 1 := Scalar.cmpi .slt v123 c0_i32_54
  let c0_i32_55 : BitVec 32 := 0#32
  let v126 : BitVec 1 := Scalar.cmpi .slt v122 c0_i32_55
  let v127 : BitVec 1 := Scalar.xori v125 v126
  let c0_i32_53 : BitVec 32 := 0#32
  let v124 : BitVec 1 := Scalar.cmpi .ne v123 c0_i32_53
  let v128 : BitVec 1 := Scalar.andi v127 v124
  let v129 : BitVec 32 := Scalar.addi v123 v122
  let v130 : BitVec 32 := Scalar.select v128 v129 v123
  let c512_i32_56 : BitVec 32 := 512#32
  let v131 : BitVec 32 := Scalar.muli v130 c512_i32_56
  v131
def k0_off37 (i : grid0.Coords) : Fin 2 → Nat :=
  let arg0 : BitVec 32 := BitVec.ofNat 32 (i 0).val
  let c0_i32_58 : BitVec 32 := 0#32
  let v134 : BitVec 1 := Scalar.cmpi .sgt arg0 c0_i32_58
  let v135 : BitVec 32 := Scalar.extui v134
  let c0_i32_59 : BitVec 32 := 0#32
  let v136 : BitVec 1 := Scalar.cmpi .slt arg0 c0_i32_59
  let v137 : BitVec 32 := Scalar.extui v136
  let v138 : BitVec 32 := Scalar.subi v135 v137
  let c16_i32_57 : BitVec 32 := 16#32
  let c0_i32_60 : BitVec 32 := 0#32
  let v139 : BitVec 1 := Scalar.cmpi .sgt c16_i32_57 c0_i32_60
  let v140 : BitVec 32 := Scalar.extui v139
  let c0_i32_61 : BitVec 32 := 0#32
  let v141 : BitVec 1 := Scalar.cmpi .slt c16_i32_57 c0_i32_61
  let v142 : BitVec 32 := Scalar.extui v141
  let v143 : BitVec 32 := Scalar.subi v140 v142
  let v144 : BitVec 1 := Scalar.cmpi .ne v138 v143
  let v145 : BitVec 32 := Scalar.remsi arg0 c16_i32_57
  let c0_i32_62 : BitVec 32 := 0#32
  let v146 : BitVec 1 := Scalar.cmpi .ne v145 c0_i32_62
  let v147 : BitVec 1 := Scalar.andi v144 v146
  let v133 : BitVec 32 := Scalar.divsi arg0 c16_i32_57
  let c1_i32_63 : BitVec 32 := 1#32
  let v148 : BitVec 32 := Scalar.subi v133 c1_i32_63
  let v149 : BitVec 32 := Scalar.select v147 v148 v133
  let v150 : Index := Scalar.indexCast v149
  let c16_i32_50 : BitVec 32 := 16#32
  let c0_i32_51 : BitVec 32 := 0#32
  let v121 : BitVec 1 := Scalar.cmpi .eq c16_i32_50 c0_i32_51
  let c1_i32_52 : BitVec 32 := 1#32
  let v122 : BitVec 32 := Scalar.select v121 c1_i32_52 c16_i32_50
  let v123 : BitVec 32 := Scalar.remsi arg0 v122
  let c0_i32_54 : BitVec 32 := 0#32
  let v125 : BitVec 1 := Scalar.cmpi .slt v123 c0_i32_54
  let c0_i32_55 : BitVec 32 := 0#32
  let v126 : BitVec 1 := Scalar.cmpi .slt v122 c0_i32_55
  let v127 : BitVec 1 := Scalar.xori v125 v126
  let c0_i32_53 : BitVec 32 := 0#32
  let v124 : BitVec 1 := Scalar.cmpi .ne v123 c0_i32_53
  let v128 : BitVec 1 := Scalar.andi v127 v124
  let v129 : BitVec 32 := Scalar.addi v123 v122
  let v130 : BitVec 32 := Scalar.select v128 v129 v123
  let c512_i32_56 : BitVec 32 := 512#32
  let v131 : BitVec 32 := Scalar.muli v130 c512_i32_56
  let v132 : BitVec 32 := v131
  let v151 : Index := Scalar.indexCast v132
  ![v150.toNat, v151.toNat]
def k0_cond4 (i : grid0.Coords) (v32 : BitVec 32) : BitVec 1 :=
  let arg0 : BitVec 32 := BitVec.ofNat 32 (i 0).val
  let c2_i32_23 : BitVec 32 := 2#32
  let c0_i32_24 : BitVec 32 := 0#32
  let v61 : BitVec 1 := Scalar.cmpi .eq c2_i32_23 c0_i32_24
  let c1_i32_25 : BitVec 32 := 1#32
  let v62 : BitVec 32 := Scalar.select v61 c1_i32_25 c2_i32_23
  let v63 : BitVec 32 := Scalar.remsi arg0 v62
  let c0_i32_27 : BitVec 32 := 0#32
  let v65 : BitVec 1 := Scalar.cmpi .slt v63 c0_i32_27
  let c0_i32_28 : BitVec 32 := 0#32
  let v66 : BitVec 1 := Scalar.cmpi .slt v62 c0_i32_28
  let v67 : BitVec 1 := Scalar.xori v65 v66
  let c0_i32_26 : BitVec 32 := 0#32
  let v64 : BitVec 1 := Scalar.cmpi .ne v63 c0_i32_26
  let v68 : BitVec 1 := Scalar.andi v67 v64
  let v69 : BitVec 32 := Scalar.addi v63 v62
  let v70 : BitVec 32 := Scalar.select v68 v69 v63
  let c1_i32_29 : BitVec 32 := 1#32
  let v71 : BitVec 1 := Scalar.cmpi .eq v70 c1_i32_29
  let c64_i32 : BitVec 32 := 64#32
  let v0 : BitVec 1 := Scalar.cmpi .slt arg0 c64_i32
  let v72 : BitVec 1 := Scalar.andi v71 v0
  let c0_i32_12 : BitVec 32 := 0#32
  let v34 : BitVec 1 := Scalar.cmpi .sgt arg0 c0_i32_12
  let c1_i32 : BitVec 32 := 1#32
  let v1 : BitVec 32 := Scalar.subi arg0 c1_i32
  let c0_i32 : BitVec 32 := 0#32
  let v2 : BitVec 32 := Scalar.maxsi v1 c0_i32
  let c16_i32 : BitVec 32 := 16#32
  let c0_i32_0 : BitVec 32 := 0#32
  let v3 : BitVec 1 := Scalar.cmpi .eq c16_i32 c0_i32_0
  let c1_i32_1 : BitVec 32 := 1#32
  let v4 : BitVec 32 := Scalar.select v3 c1_i32_1 c16_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c512_i32 : BitVec 32 := 512#32
  let v13 : BitVec 32 := Scalar.muli v12 c512_i32
  let v33 : BitVec 1 := Scalar.cmpi .slt v13 v32
  let v35 : BitVec 1 := Scalar.andi v34 v33
  let v73 : BitVec 1 := Scalar.andi v72 v35
  let v74 : BitVec 32 := Scalar.extui v73
  let c0_i32_30 : BitVec 32 := 0#32
  let v75 : BitVec 1 := Scalar.cmpi .ne v74 c0_i32_30
  v75

@[reducible] def k0_t8_loop : Scf.Loop 32 :=
  let c0_i32_35 : BitVec 32 := 0#32
  let c16_i32_36 : BitVec 32 := 16#32
  let v86 : BitVec 32 := Scalar.addi c0_i32_35 c16_i32_36
  let c1_i32_37 : BitVec 32 := 1#32
  ⟨c0_i32_35, v86, c1_i32_37⟩
def k0_mult15 (k0_t8 : Fin k0_t8_loop.trips) : BitVec 32 :=
  let c0_i32_35 : BitVec 32 := 0#32
  let c1_i32_37 : BitVec 32 := 1#32
  let arg16 : BitVec 32 := Scf.iv c0_i32_35 c1_i32_37 k0_t8
  let c32_i32 : BitVec 32 := 32#32
  let v152 : BitVec 32 := Scalar.muli arg16 c32_i32
  v152
def k0_off38 (k0_t8 : Fin k0_t8_loop.trips) : Fin 3 → Nat :=
  let c0_61 : Index := 0#32
  let c0_i32_35 : BitVec 32 := 0#32
  let c1_i32_37 : BitVec 32 := 1#32
  let arg16 : BitVec 32 := Scf.iv c0_i32_35 c1_i32_37 k0_t8
  let c32_i32 : BitVec 32 := 32#32
  let v152 : BitVec 32 := Scalar.muli arg16 c32_i32
  let v153 : BitVec 32 := v152
  let v154 : Index := Scalar.indexCast v153
  let c0_62 : Index := 0#32
  ![0, v154.toNat, 0]
def k0_off39 (k0_t8 : Fin k0_t8_loop.trips) : Fin 2 → Nat :=
  let c0_i32_35 : BitVec 32 := 0#32
  let c1_i32_37 : BitVec 32 := 1#32
  let arg16 : BitVec 32 := Scf.iv c0_i32_35 c1_i32_37 k0_t8
  let c32_i32 : BitVec 32 := 32#32
  let v152 : BitVec 32 := Scalar.muli arg16 c32_i32
  let v153 : BitVec 32 := v152
  let v202 : Index := Scalar.indexCast v153
  let c0_79 : Index := 0#32
  ![v202.toNat, 0]
def k0_off40 (k0_t8 : Fin k0_t8_loop.trips) : Fin 2 → Nat :=
  let c0_i32_35 : BitVec 32 := 0#32
  let c1_i32_37 : BitVec 32 := 1#32
  let arg16 : BitVec 32 := Scf.iv c0_i32_35 c1_i32_37 k0_t8
  let c32_i32 : BitVec 32 := 32#32
  let v152 : BitVec 32 := Scalar.muli arg16 c32_i32
  let v153 : BitVec 32 := v152
  let v208 : Index := Scalar.indexCast v153
  let c0_80 : Index := 0#32
  ![v208.toNat, 0]
def k0_mult16 (i : grid0.Coords) : BitVec 32 :=
  let arg0 : BitVec 32 := BitVec.ofNat 32 (i 0).val
  let c16_i32_47 : BitVec 32 := 16#32
  let c0_i32_48 : BitVec 32 := 0#32
  let v120 : BitVec 1 := Scalar.cmpi .eq c16_i32_47 c0_i32_48
  let c1_i32_49 : BitVec 32 := 1#32
  let v121 : BitVec 32 := Scalar.select v120 c1_i32_49 c16_i32_47
  let v122 : BitVec 32 := Scalar.remsi arg0 v121
  let c0_i32_51 : BitVec 32 := 0#32
  let v124 : BitVec 1 := Scalar.cmpi .slt v122 c0_i32_51
  let c0_i32_52 : BitVec 32 := 0#32
  let v125 : BitVec 1 := Scalar.cmpi .slt v121 c0_i32_52
  let v126 : BitVec 1 := Scalar.xori v124 v125
  let c0_i32_50 : BitVec 32 := 0#32
  let v123 : BitVec 1 := Scalar.cmpi .ne v122 c0_i32_50
  let v127 : BitVec 1 := Scalar.andi v126 v123
  let v128 : BitVec 32 := Scalar.addi v122 v121
  let v129 : BitVec 32 := Scalar.select v127 v128 v122
  let c512_i32_53 : BitVec 32 := 512#32
  let v130 : BitVec 32 := Scalar.muli v129 c512_i32_53
  v130
def k0_off41 (i : grid0.Coords) : Fin 2 → Nat :=
  let arg0 : BitVec 32 := BitVec.ofNat 32 (i 0).val
  let c0_i32_55 : BitVec 32 := 0#32
  let v133 : BitVec 1 := Scalar.cmpi .sgt arg0 c0_i32_55
  let v134 : BitVec 32 := Scalar.extui v133
  let c0_i32_56 : BitVec 32 := 0#32
  let v135 : BitVec 1 := Scalar.cmpi .slt arg0 c0_i32_56
  let v136 : BitVec 32 := Scalar.extui v135
  let v137 : BitVec 32 := Scalar.subi v134 v136
  let c16_i32_54 : BitVec 32 := 16#32
  let c0_i32_57 : BitVec 32 := 0#32
  let v138 : BitVec 1 := Scalar.cmpi .sgt c16_i32_54 c0_i32_57
  let v139 : BitVec 32 := Scalar.extui v138
  let c0_i32_58 : BitVec 32 := 0#32
  let v140 : BitVec 1 := Scalar.cmpi .slt c16_i32_54 c0_i32_58
  let v141 : BitVec 32 := Scalar.extui v140
  let v142 : BitVec 32 := Scalar.subi v139 v141
  let v143 : BitVec 1 := Scalar.cmpi .ne v137 v142
  let v144 : BitVec 32 := Scalar.remsi arg0 c16_i32_54
  let c0_i32_59 : BitVec 32 := 0#32
  let v145 : BitVec 1 := Scalar.cmpi .ne v144 c0_i32_59
  let v146 : BitVec 1 := Scalar.andi v143 v145
  let v132 : BitVec 32 := Scalar.divsi arg0 c16_i32_54
  let c1_i32_60 : BitVec 32 := 1#32
  let v147 : BitVec 32 := Scalar.subi v132 c1_i32_60
  let v148 : BitVec 32 := Scalar.select v146 v147 v132
  let v149 : Index := Scalar.indexCast v148
  let c16_i32_47 : BitVec 32 := 16#32
  let c0_i32_48 : BitVec 32 := 0#32
  let v120 : BitVec 1 := Scalar.cmpi .eq c16_i32_47 c0_i32_48
  let c1_i32_49 : BitVec 32 := 1#32
  let v121 : BitVec 32 := Scalar.select v120 c1_i32_49 c16_i32_47
  let v122 : BitVec 32 := Scalar.remsi arg0 v121
  let c0_i32_51 : BitVec 32 := 0#32
  let v124 : BitVec 1 := Scalar.cmpi .slt v122 c0_i32_51
  let c0_i32_52 : BitVec 32 := 0#32
  let v125 : BitVec 1 := Scalar.cmpi .slt v121 c0_i32_52
  let v126 : BitVec 1 := Scalar.xori v124 v125
  let c0_i32_50 : BitVec 32 := 0#32
  let v123 : BitVec 1 := Scalar.cmpi .ne v122 c0_i32_50
  let v127 : BitVec 1 := Scalar.andi v126 v123
  let v128 : BitVec 32 := Scalar.addi v122 v121
  let v129 : BitVec 32 := Scalar.select v127 v128 v122
  let c512_i32_53 : BitVec 32 := 512#32
  let v130 : BitVec 32 := Scalar.muli v129 c512_i32_53
  let v131 : BitVec 32 := v130
  let v150 : Index := Scalar.indexCast v131
  ![v149.toNat, v150.toNat]
def k0_cond5 (i : grid0.Coords) (v32 : BitVec 32) : BitVec 1 :=
  let arg0 : BitVec 32 := BitVec.ofNat 32 (i 0).val
  let c2_i32_23 : BitVec 32 := 2#32
  let c0_i32_24 : BitVec 32 := 0#32
  let v61 : BitVec 1 := Scalar.cmpi .eq c2_i32_23 c0_i32_24
  let c1_i32_25 : BitVec 32 := 1#32
  let v62 : BitVec 32 := Scalar.select v61 c1_i32_25 c2_i32_23
  let v63 : BitVec 32 := Scalar.remsi arg0 v62
  let c0_i32_27 : BitVec 32 := 0#32
  let v65 : BitVec 1 := Scalar.cmpi .slt v63 c0_i32_27
  let c0_i32_28 : BitVec 32 := 0#32
  let v66 : BitVec 1 := Scalar.cmpi .slt v62 c0_i32_28
  let v67 : BitVec 1 := Scalar.xori v65 v66
  let c0_i32_26 : BitVec 32 := 0#32
  let v64 : BitVec 1 := Scalar.cmpi .ne v63 c0_i32_26
  let v68 : BitVec 1 := Scalar.andi v67 v64
  let v69 : BitVec 32 := Scalar.addi v63 v62
  let v70 : BitVec 32 := Scalar.select v68 v69 v63
  let c1_i32_29 : BitVec 32 := 1#32
  let v71 : BitVec 1 := Scalar.cmpi .eq v70 c1_i32_29
  let c64_i32 : BitVec 32 := 64#32
  let v0 : BitVec 1 := Scalar.cmpi .slt arg0 c64_i32
  let v76 : BitVec 1 := Scalar.andi v71 v0
  let c0_i32_12 : BitVec 32 := 0#32
  let v34 : BitVec 1 := Scalar.cmpi .sgt arg0 c0_i32_12
  let c1_i32 : BitVec 32 := 1#32
  let v1 : BitVec 32 := Scalar.subi arg0 c1_i32
  let c0_i32 : BitVec 32 := 0#32
  let v2 : BitVec 32 := Scalar.maxsi v1 c0_i32
  let c16_i32 : BitVec 32 := 16#32
  let c0_i32_0 : BitVec 32 := 0#32
  let v3 : BitVec 1 := Scalar.cmpi .eq c16_i32 c0_i32_0
  let c1_i32_1 : BitVec 32 := 1#32
  let v4 : BitVec 32 := Scalar.select v3 c1_i32_1 c16_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c512_i32 : BitVec 32 := 512#32
  let v13 : BitVec 32 := Scalar.muli v12 c512_i32
  let v33 : BitVec 1 := Scalar.cmpi .slt v13 v32
  let v35 : BitVec 1 := Scalar.andi v34 v33
  let true_31 : BitVec 1 := 1#1
  let v77 : BitVec 1 := Scalar.xori v35 true_31
  let v78 : BitVec 1 := Scalar.andi v76 v77
  let v79 : BitVec 32 := Scalar.extui v78
  let c0_i32_32 : BitVec 32 := 0#32
  let v80 : BitVec 1 := Scalar.cmpi .ne v79 c0_i32_32
  v80

def k0_chk1 (i : grid0.Coords) (v32 : BitVec 32) : Prop :=
  (∀ (k0_h1 : k0_cond1 i v32 = 1#1), ∀ a, (k0_off14 i) a + S1x512.size a ≤ S4x8192.size a) ∧
  (∀ (k0_h2 : k0_cond2 i v32 = 1#1), ∀ a, (k0_off18 i) a + S1x512.size a ≤ S4x8192.size a) ∧
  (∀ (k0_h4 : k0_cond4 i v32 = 1#1), ∀ a, (k0_off37 i) a + S1x512.size a ≤ S4x8192.size a) ∧
  (∀ (k0_h5 : k0_cond5 i v32 = 1#1), ∀ a, (k0_off41 i) a + S1x512.size a ≤ S4x8192.size a)
theorem k0_off14_inb : ∀ (i : grid0.Coords) (v32 : BitVec 32) (k0_hw1 : k0_chk1 i v32), ∀ (k0_h1 : k0_cond1 i v32 = 1#1), ∀ a, (k0_off14 i) a + S1x512.size a ≤ S4x8192.size a := fun i v32 k0_hw1 k0_h1 => k0_hw1.1 k0_h1
theorem k0_off18_inb : ∀ (i : grid0.Coords) (v32 : BitVec 32) (k0_hw1 : k0_chk1 i v32), ∀ (k0_h2 : k0_cond2 i v32 = 1#1), ∀ a, (k0_off18 i) a + S1x512.size a ≤ S4x8192.size a := fun i v32 k0_hw1 k0_h2 => k0_hw1.2.1 k0_h2
theorem k0_off37_inb : ∀ (i : grid0.Coords) (v32 : BitVec 32) (k0_hw1 : k0_chk1 i v32), ∀ (k0_h4 : k0_cond4 i v32 = 1#1), ∀ a, (k0_off37 i) a + S1x512.size a ≤ S4x8192.size a := fun i v32 k0_hw1 k0_h4 => k0_hw1.2.2.1 k0_h4
theorem k0_off41_inb : ∀ (i : grid0.Coords) (v32 : BitVec 32) (k0_hw1 : k0_chk1 i v32), ∀ (k0_h5 : k0_cond5 i v32 = 1#1), ∀ a, (k0_off41 i) a + S1x512.size a ≤ S4x8192.size a := fun i v32 k0_hw1 k0_h5 => k0_hw1.2.2.2 k0_h5

@[reducible] def k0_t9_loop : Scf.Loop 32 :=
  let c0_i32_35 : BitVec 32 := 0#32
  let c8_i32 : BitVec 32 := 8#32
  let v86 : BitVec 32 := Scalar.addi c0_i32_35 c8_i32
  let c1_i32_36 : BitVec 32 := 1#32
  ⟨c0_i32_35, v86, c1_i32_36⟩
def k0_mult17 (k0_t9 : Fin k0_t9_loop.trips) : BitVec 32 :=
  let c0_i32_35 : BitVec 32 := 0#32
  let c1_i32_36 : BitVec 32 := 1#32
  let arg16 : BitVec 32 := Scf.iv c0_i32_35 c1_i32_36 k0_t9
  let c256_i32 : BitVec 32 := 256#32
  let v88 : BitVec 32 := Scalar.muli arg16 c256_i32
  v88
def k0_off42 (k0_t9 : Fin k0_t9_loop.trips) : Fin 2 → Nat :=
  let c0_43 : Index := 0#32
  let c0_i32_35 : BitVec 32 := 0#32
  let c1_i32_36 : BitVec 32 := 1#32
  let arg16 : BitVec 32 := Scf.iv c0_i32_35 c1_i32_36 k0_t9
  let c256_i32 : BitVec 32 := 256#32
  let v88 : BitVec 32 := Scalar.muli arg16 c256_i32
  let v89 : BitVec 32 := v88
  let v91 : Index := Scalar.indexCast v89
  ![0, v91.toNat]
def k0_off43 (k0_t9 : Fin k0_t9_loop.trips) : Fin 2 → Nat :=
  let c0_46 : Index := 0#32
  let c0_i32_35 : BitVec 32 := 0#32
  let c1_i32_36 : BitVec 32 := 1#32
  let arg16 : BitVec 32 := Scf.iv c0_i32_35 c1_i32_36 k0_t9
  let c256_i32 : BitVec 32 := 256#32
  let v88 : BitVec 32 := Scalar.muli arg16 c256_i32
  let v89 : BitVec 32 := v88
  let v97 : Index := Scalar.indexCast v89
  ![0, v97.toNat]
def k0_off44 (k0_t9 : Fin k0_t9_loop.trips) : Fin 3 → Nat :=
  let c0_47 : Index := 0#32
  let c0_48 : Index := 0#32
  let c0_i32_35 : BitVec 32 := 0#32
  let c1_i32_36 : BitVec 32 := 1#32
  let arg16 : BitVec 32 := Scf.iv c0_i32_35 c1_i32_36 k0_t9
  let c256_i32 : BitVec 32 := 256#32
  let v88 : BitVec 32 := Scalar.muli arg16 c256_i32
  let v89 : BitVec 32 := v88
  let v102 : Index := Scalar.indexCast v89
  ![0, 0, v102.toNat]
@[reducible] def k0_t10_loop : Scf.Loop 32 :=
  let c0_i32_38 : BitVec 32 := 0#32
  let c8_i32_39 : BitVec 32 := 8#32
  let v87 : BitVec 32 := Scalar.addi c0_i32_38 c8_i32_39
  let c1_i32_40 : BitVec 32 := 1#32
  ⟨c0_i32_38, v87, c1_i32_40⟩
def k0_mult18 (k0_t10 : Fin k0_t10_loop.trips) : BitVec 32 :=
  let c0_i32_38 : BitVec 32 := 0#32
  let c1_i32_40 : BitVec 32 := 1#32
  let arg16 : BitVec 32 := Scf.iv c0_i32_38 c1_i32_40 k0_t10
  let c256_i32 : BitVec 32 := 256#32
  let v88 : BitVec 32 := Scalar.muli arg16 c256_i32
  v88
def k0_off45 (k0_t10 : Fin k0_t10_loop.trips) : Fin 2 → Nat :=
  let c0_43 : Index := 0#32
  let c0_i32_38 : BitVec 32 := 0#32
  let c1_i32_40 : BitVec 32 := 1#32
  let arg16 : BitVec 32 := Scf.iv c0_i32_38 c1_i32_40 k0_t10
  let c256_i32 : BitVec 32 := 256#32
  let v88 : BitVec 32 := Scalar.muli arg16 c256_i32
  let v89 : BitVec 32 := v88
  let v91 : Index := Scalar.indexCast v89
  ![0, v91.toNat]
def k0_off46 (k0_t10 : Fin k0_t10_loop.trips) : Fin 2 → Nat :=
  let c0_46 : Index := 0#32
  let c0_i32_38 : BitVec 32 := 0#32
  let c1_i32_40 : BitVec 32 := 1#32
  let arg16 : BitVec 32 := Scf.iv c0_i32_38 c1_i32_40 k0_t10
  let c256_i32 : BitVec 32 := 256#32
  let v88 : BitVec 32 := Scalar.muli arg16 c256_i32
  let v89 : BitVec 32 := v88
  let v97 : Index := Scalar.indexCast v89
  ![0, v97.toNat]
def k0_off47 (k0_t10 : Fin k0_t10_loop.trips) : Fin 3 → Nat :=
  let c0_47 : Index := 0#32
  let c0_48 : Index := 0#32
  let c0_i32_38 : BitVec 32 := 0#32
  let c1_i32_40 : BitVec 32 := 1#32
  let arg16 : BitVec 32 := Scf.iv c0_i32_38 c1_i32_40 k0_t10
  let c256_i32 : BitVec 32 := 256#32
  let v88 : BitVec 32 := Scalar.muli arg16 c256_i32
  let v89 : BitVec 32 := v88
  let v102 : Index := Scalar.indexCast v89
  ![0, 0, v102.toNat]
def k0_cond3 (i : grid0.Coords) (v32 : BitVec 32) : BitVec 1 :=
  let arg0 : BitVec 32 := BitVec.ofNat 32 (i 0).val
  let c2_i32 : BitVec 32 := 2#32
  let c0_i32_13 : BitVec 32 := 0#32
  let v36 : BitVec 1 := Scalar.cmpi .eq c2_i32 c0_i32_13
  let c1_i32_14 : BitVec 32 := 1#32
  let v37 : BitVec 32 := Scalar.select v36 c1_i32_14 c2_i32
  let v38 : BitVec 32 := Scalar.remsi arg0 v37
  let c0_i32_16 : BitVec 32 := 0#32
  let v40 : BitVec 1 := Scalar.cmpi .slt v38 c0_i32_16
  let c0_i32_17 : BitVec 32 := 0#32
  let v41 : BitVec 1 := Scalar.cmpi .slt v37 c0_i32_17
  let v42 : BitVec 1 := Scalar.xori v40 v41
  let c0_i32_15 : BitVec 32 := 0#32
  let v39 : BitVec 1 := Scalar.cmpi .ne v38 c0_i32_15
  let v43 : BitVec 1 := Scalar.andi v42 v39
  let v44 : BitVec 32 := Scalar.addi v38 v37
  let v45 : BitVec 32 := Scalar.select v43 v44 v38
  let c0_i32_18 : BitVec 32 := 0#32
  let v46 : BitVec 1 := Scalar.cmpi .eq v45 c0_i32_18
  let c64_i32 : BitVec 32 := 64#32
  let v0 : BitVec 1 := Scalar.cmpi .slt arg0 c64_i32
  let true_21 : BitVec 1 := 1#1
  let v56 : BitVec 1 := Scalar.xori v0 true_21
  let v57 : BitVec 1 := Scalar.andi v46 v56
  let c0_i32_12 : BitVec 32 := 0#32
  let v34 : BitVec 1 := Scalar.cmpi .sgt arg0 c0_i32_12
  let c1_i32 : BitVec 32 := 1#32
  let v1 : BitVec 32 := Scalar.subi arg0 c1_i32
  let c0_i32 : BitVec 32 := 0#32
  let v2 : BitVec 32 := Scalar.maxsi v1 c0_i32
  let c16_i32 : BitVec 32 := 16#32
  let c0_i32_0 : BitVec 32 := 0#32
  let v3 : BitVec 1 := Scalar.cmpi .eq c16_i32 c0_i32_0
  let c1_i32_1 : BitVec 32 := 1#32
  let v4 : BitVec 32 := Scalar.select v3 c1_i32_1 c16_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c512_i32 : BitVec 32 := 512#32
  let v13 : BitVec 32 := Scalar.muli v12 c512_i32
  let v33 : BitVec 1 := Scalar.cmpi .slt v13 v32
  let v35 : BitVec 1 := Scalar.andi v34 v33
  let v58 : BitVec 1 := Scalar.andi v57 v35
  let v59 : BitVec 32 := Scalar.extui v58
  let c0_i32_22 : BitVec 32 := 0#32
  let v60 : BitVec 1 := Scalar.cmpi .ne v59 c0_i32_22
  v60

def k0_cond6 (i : grid0.Coords) (v32 : BitVec 32) : BitVec 1 :=
  let arg0 : BitVec 32 := BitVec.ofNat 32 (i 0).val
  let c2_i32_23 : BitVec 32 := 2#32
  let c0_i32_24 : BitVec 32 := 0#32
  let v61 : BitVec 1 := Scalar.cmpi .eq c2_i32_23 c0_i32_24
  let c1_i32_25 : BitVec 32 := 1#32
  let v62 : BitVec 32 := Scalar.select v61 c1_i32_25 c2_i32_23
  let v63 : BitVec 32 := Scalar.remsi arg0 v62
  let c0_i32_27 : BitVec 32 := 0#32
  let v65 : BitVec 1 := Scalar.cmpi .slt v63 c0_i32_27
  let c0_i32_28 : BitVec 32 := 0#32
  let v66 : BitVec 1 := Scalar.cmpi .slt v62 c0_i32_28
  let v67 : BitVec 1 := Scalar.xori v65 v66
  let c0_i32_26 : BitVec 32 := 0#32
  let v64 : BitVec 1 := Scalar.cmpi .ne v63 c0_i32_26
  let v68 : BitVec 1 := Scalar.andi v67 v64
  let v69 : BitVec 32 := Scalar.addi v63 v62
  let v70 : BitVec 32 := Scalar.select v68 v69 v63
  let c1_i32_29 : BitVec 32 := 1#32
  let v71 : BitVec 1 := Scalar.cmpi .eq v70 c1_i32_29
  let c64_i32 : BitVec 32 := 64#32
  let v0 : BitVec 1 := Scalar.cmpi .slt arg0 c64_i32
  let true_33 : BitVec 1 := 1#1
  let v81 : BitVec 1 := Scalar.xori v0 true_33
  let v82 : BitVec 1 := Scalar.andi v71 v81
  let c0_i32_12 : BitVec 32 := 0#32
  let v34 : BitVec 1 := Scalar.cmpi .sgt arg0 c0_i32_12
  let c1_i32 : BitVec 32 := 1#32
  let v1 : BitVec 32 := Scalar.subi arg0 c1_i32
  let c0_i32 : BitVec 32 := 0#32
  let v2 : BitVec 32 := Scalar.maxsi v1 c0_i32
  let c16_i32 : BitVec 32 := 16#32
  let c0_i32_0 : BitVec 32 := 0#32
  let v3 : BitVec 1 := Scalar.cmpi .eq c16_i32 c0_i32_0
  let c1_i32_1 : BitVec 32 := 1#32
  let v4 : BitVec 32 := Scalar.select v3 c1_i32_1 c16_i32
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c512_i32 : BitVec 32 := 512#32
  let v13 : BitVec 32 := Scalar.muli v12 c512_i32
  let v33 : BitVec 1 := Scalar.cmpi .slt v13 v32
  let v35 : BitVec 1 := Scalar.andi v34 v33
  let v83 : BitVec 1 := Scalar.andi v82 v35
  let v84 : BitVec 32 := Scalar.extui v83
  let c0_i32_34 : BitVec 32 := 0#32
  let v85 : BitVec 1 := Scalar.cmpi .ne v84 c0_i32_34
  v85

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c16_i32_4 : BitVec 32 := 16#32
  let c0_i32_5 : BitVec 32 := 0#32
  let v18 : BitVec 1 := Scalar.cmpi .eq c16_i32_4 c0_i32_5
  let c1_i32_6 : BitVec 32 := 1#32
  let v19 : BitVec 32 := Scalar.select v18 c1_i32_6 c16_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let v19 : Index := Scalar.indexCast v18
  let v20 : BitVec 32 := pf.at 0 (Rect.unit (s := S4) ![v19.toNat] S1.size (k0_off1_inb i)) numel1_S1
  let c511_i32 : BitVec 32 := 511#32
  let v21 : BitVec 32 := Scalar.addi v20 c511_i32
  let c512_i32 : BitVec 32 := 512#32
  let v22 : BitVec 32 := Scalar.divsi v21 c512_i32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c0_i32_8 : BitVec 32 := 0#32
  let v28 : BitVec 1 := Scalar.cmpi .sgt c512_i32 c0_i32_8
  let v29 : BitVec 32 := Scalar.extui v28
  let c0_i32_9 : BitVec 32 := 0#32
  let v30 : BitVec 1 := Scalar.cmpi .slt c512_i32 c0_i32_9
  let v31 : BitVec 32 := Scalar.extui v30
  let v32 : BitVec 32 := Scalar.subi v29 v31
  let v33 : BitVec 1 := Scalar.cmpi .ne v27 v32
  let v34 : BitVec 32 := Scalar.remsi v21 c512_i32
  let c0_i32_10 : BitVec 32 := 0#32
  let v35 : BitVec 1 := Scalar.cmpi .ne v34 c0_i32_10
  let v36 : BitVec 1 := Scalar.andi v33 v35
  let c1_i32_11 : BitVec 32 := 1#32
  let v37 : BitVec 32 := Scalar.subi v22 c1_i32_11
  let v38 : BitVec 32 := Scalar.select v36 v37 v22
  let c1_i32_12 : BitVec 32 := 1#32
  let v39 : BitVec 32 := Scalar.subi v38 c1_i32_12
  let c0_i32_13 : BitVec 32 := 0#32
  let v40 : BitVec 32 := Scalar.maxsi v39 c0_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v1 v42
  let c0_i32_17 : BitVec 32 := 0#32
  let v44 : BitVec 1 := Scalar.cmpi .ne v43 c0_i32_17
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let v48 : BitVec 1 := Scalar.andi v47 v44
  let v49 : BitVec 32 := Scalar.addi v43 v42
  let v50 : BitVec 32 := Scalar.select v48 v49 v43
  let v51 : BitVec 32 := Scalar.minsi v50 v40
  let c0_i32_20 : BitVec 32 := 0#32
  let c0_i32_21 : BitVec 32 := 0#32
  ![v18.toNat, v51.toNat, c0_i32_20.toNat]

def cc0_transform_9 (k0_off1_inb : ∀ i : grid0.Coords, ∀ a, (k0_off1 i) a + S1.size a ≤ S4.size a) (numel1_S1 : S1.numel = 1) (pf : pre0.Contents (Elt F)) (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let v19 : Index := Scalar.indexCast v18
  let v20 : BitVec 32 := pf.at 0 (Rect.unit (s := S4) ![v19.toNat] S1.size (k0_off1_inb i)) numel1_S1
  let c511_i32 : BitVec 32 := 511#32
  let v21 : BitVec 32 := Scalar.addi v20 c511_i32
  let c512_i32 : BitVec 32 := 512#32
  let v22 : BitVec 32 := Scalar.divsi v21 c512_i32
  let c0_i32_6 : BitVec 32 := 0#32
  let v23 : BitVec 1 := Scalar.cmpi .sgt v21 c0_i32_6
  let v24 : BitVec 32 := Scalar.extui v23
  let c0_i32_7 : BitVec 32 := 0#32
  let v25 : BitVec 1 := Scalar.cmpi .slt v21 c0_i32_7
  let v26 : BitVec 32 := Scalar.extui v25
  let v27 : BitVec 32 := Scalar.subi v24 v26
  let c0_i32_8 : BitVec 32 := 0#32
  let v28 : BitVec 1 := Scalar.cmpi .sgt c512_i32 c0_i32_8
  let v29 : BitVec 32 := Scalar.extui v28
  let c0_i32_9 : BitVec 32 := 0#32
  let v30 : BitVec 1 := Scalar.cmpi .slt c512_i32 c0_i32_9
  let v31 : BitVec 32 := Scalar.extui v30
  let v32 : BitVec 32 := Scalar.subi v29 v31
  let v33 : BitVec 1 := Scalar.cmpi .ne v27 v32
  let v34 : BitVec 32 := Scalar.remsi v21 c512_i32
  let c0_i32_10 : BitVec 32 := 0#32
  let v35 : BitVec 1 := Scalar.cmpi .ne v34 c0_i32_10
  let v36 : BitVec 1 := Scalar.andi v33 v35
  let c1_i32_11 : BitVec 32 := 1#32
  let v37 : BitVec 32 := Scalar.subi v22 c1_i32_11
  let v38 : BitVec 32 := Scalar.select v36 v37 v22
  let c1_i32_12 : BitVec 32 := 1#32
  let v39 : BitVec 32 := Scalar.subi v38 c1_i32_12
  let c0_i32_13 : BitVec 32 := 0#32
  let v40 : BitVec 32 := Scalar.maxsi v39 c0_i32_13
  let c16_i32_14 : BitVec 32 := 16#32
  let c0_i32_15 : BitVec 32 := 0#32
  let v41 : BitVec 1 := Scalar.cmpi .eq c16_i32_14 c0_i32_15
  let c1_i32_16 : BitVec 32 := 1#32
  let v42 : BitVec 32 := Scalar.select v41 c1_i32_16 c16_i32_14
  let v43 : BitVec 32 := Scalar.remsi v1 v42
  let c0_i32_17 : BitVec 32 := 0#32
  let v44 : BitVec 1 := Scalar.cmpi .ne v43 c0_i32_17
  let c0_i32_18 : BitVec 32 := 0#32
  let v45 : BitVec 1 := Scalar.cmpi .slt v43 c0_i32_18
  let c0_i32_19 : BitVec 32 := 0#32
  let v46 : BitVec 1 := Scalar.cmpi .slt v42 c0_i32_19
  let v47 : BitVec 1 := Scalar.xori v45 v46
  let v48 : BitVec 1 := Scalar.andi v47 v44
  let v49 : BitVec 32 := Scalar.addi v43 v42
  let v50 : BitVec 32 := Scalar.select v48 v49 v43
  let v51 : BitVec 32 := Scalar.minsi v50 v40
  let c0_i32_20 : BitVec 32 := 0#32
  let c0_i32_21 : BitVec 32 := 0#32
  ![v18.toNat, v51.toNat, c0_i32_20.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4 : Shape := ⟨1, ![4]⟩
abbrev S4x8192x2048 : Shape := ⟨3, ![4, 8192, 2048]⟩
abbrev S1x2048 : Shape := ⟨2, ![1, 2048]⟩
abbrev S2048x2048 : Shape := ⟨2, ![2048, 2048]⟩
abbrev S4x8192 : Shape := ⟨2, ![4, 8192]⟩
abbrev S1x1x2048 : Shape := ⟨3, ![1, 1, 2048]⟩
abbrev S4x8192x1 : Shape := ⟨3, ![4, 8192, 1]⟩

abbrev nBuf : Space → Nat
  | .hbm => 11
  | .vmem => 10
  | .smem => 0
  | _ => 0

abbrev bufTy : (tb : Table) → Fin (tcTables nBuf tb) → BufTy
  | .hbm, ⟨0, _⟩ => ⟨S4, .i32⟩
  | .hbm, ⟨1, _⟩ => ⟨S4x8192x2048, .bf16⟩
  | .hbm, ⟨2, _⟩ => ⟨S1x2048, .f32⟩
  | .hbm, ⟨3, _⟩ => ⟨S2048x2048, .fp8e4m3⟩
  | .hbm, ⟨4, _⟩ => ⟨S2048x2048, .fp8e4m3⟩
  | .hbm, ⟨5, _⟩ => ⟨S1x2048, .f32⟩
  | .hbm, ⟨6, _⟩ => ⟨S1x2048, .f32⟩
  | .hbm, ⟨7, _⟩ => ⟨S4x8192x2048, .fp8e4m3⟩
  | .hbm, ⟨8, _⟩ => ⟨S4x8192, .f32⟩
  | .hbm, ⟨9, _⟩ => ⟨S4x8192x2048, .bf16⟩
  | .hbm, ⟨10, _⟩ => ⟨S4x8192x2048, .bf16⟩
  | .local _ .vmem, ⟨0, _⟩ => ⟨S4x8192x2048, .bf16⟩
  | .local _ .vmem, ⟨1, _⟩ => ⟨S1x2048, .f32⟩
  | .local _ .vmem, ⟨2, _⟩ => ⟨S2048x2048, .fp8e4m3⟩
  | .local _ .vmem, ⟨3, _⟩ => ⟨S2048x2048, .fp8e4m3⟩
  | .local _ .vmem, ⟨4, _⟩ => ⟨S1x2048, .f32⟩
  | .local _ .vmem, ⟨5, _⟩ => ⟨S1x2048, .f32⟩
  | .local _ .vmem, ⟨6, _⟩ => ⟨S4x8192x2048, .fp8e4m3⟩
  | .local _ .vmem, ⟨7, _⟩ => ⟨S4x8192, .f32⟩
  | .local _ .vmem, ⟨8, _⟩ => ⟨S4x8192x2048, .bf16⟩
  | .local _ .vmem, ⟨9, _⟩ => ⟨S4x8192x2048, .bf16⟩
  | _, _ => ⟨S4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4x8192x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8192x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x8192x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x8192x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Cases.lean ====
/-
  The kernel's control: which of its six branches a grid point takes, as a function of the point and of the covered
  length read from the table; the side condition its scale stores stand under; and the block the two projected
  results are written to.
-/
module

public import proofs.«01_k».proof.Proof.Gen.KernelIdeal
public import proofs.«01_k».proof.Proof.Gen.KernelIdeal.Launch
public import Idealize.ShloMosaic.Lib.Pipeline.Covers
public import Idealize.ShloMosaic.Lib.Affine

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The integer idioms of the printed control -/

/-- Remainder rounding towards minus infinity, as the printer spells it. -/
def fmodw (x y : BitVec 32) : BitVec 32 :=
  Scalar.select (Scalar.andi (Scalar.xori (Scalar.cmpi .slt (Scalar.remsi x y) 0#32) (Scalar.cmpi .slt y 0#32)) (Scalar.cmpi .ne (Scalar.remsi x y) 0#32))
    (Scalar.addi (Scalar.remsi x y) y) (Scalar.remsi x y)

/-- Quotient rounding towards minus infinity, as the printer spells it. -/
def fdivw (x y : BitVec 32) : BitVec 32 :=
  Scalar.select (Scalar.andi (Scalar.cmpi .ne (Scalar.subi (Scalar.extui (Scalar.cmpi .sgt x 0#32)) (Scalar.extui (Scalar.cmpi .slt x 0#32)))
      (Scalar.subi (Scalar.extui (Scalar.cmpi .sgt y 0#32)) (Scalar.extui (Scalar.cmpi .slt y 0#32)))) (Scalar.cmpi .ne (Scalar.remsi x y) 0#32))
    (Scalar.subi (Scalar.divsi x y) 1#32) (Scalar.divsi x y)

/-- The grid point as a word. -/
def aw (i : grid0.Coords) : BitVec 32 := BitVec.ofNat 32 (i 0).val
/-- The point's parity. -/
def parw (i : grid0.Coords) : BitVec 32 := fmodw (aw i) (Scalar.select (Scalar.cmpi .eq 2#32 0#32) 1#32 2#32)
/-- The tile projected at the point (the one quantised at the point before), at least zero. -/
def prevw (i : grid0.Coords) : BitVec 32 := Scalar.maxsi (Scalar.subi (aw i) 1#32) 0#32
/-- The first row of that tile within its sequence. -/
def pw (i : grid0.Coords) : BitVec 32 := Scalar.muli (fmodw (prevw i) (Scalar.select (Scalar.cmpi .eq 16#32 0#32) 1#32 16#32)) 512#32

/-- The point projects a tile: it is not the first, and the tile starts below the covered length. -/
def hp (i : grid0.Coords) (v : BitVec 32) : BitVec 1 := Scalar.andi (Scalar.cmpi .sgt (aw i) 0#32) (Scalar.cmpi .slt (pw i) v)

/-- A branch's word: the parity matched, quantising or not, projecting or not. -/
def cw (i : grid0.Coords) (k : BitVec 32) (q p : BitVec 1) : BitVec 1 :=
  Scalar.cmpi .ne (Scalar.extui (Scalar.andi (Scalar.andi (Scalar.cmpi .eq (parw i) k) q) p) : BitVec 32) 0#32

theorem cond1_eq (i : grid0.Coords) (v : BitVec 32) : k0_cond1 i v = cw i 0#32 (Scalar.cmpi .slt (aw i) 64#32) (hp i v) := rfl
theorem cond2_eq (i : grid0.Coords) (v : BitVec 32) : k0_cond2 i v = cw i 0#32 (Scalar.cmpi .slt (aw i) 64#32) (Scalar.xori (hp i v) 1#1) := rfl
theorem cond3_eq (i : grid0.Coords) (v : BitVec 32) : k0_cond3 i v = cw i 0#32 (Scalar.xori (Scalar.cmpi .slt (aw i) 64#32) 1#1) (hp i v) := rfl
theorem cond4_eq (i : grid0.Coords) (v : BitVec 32) : k0_cond4 i v = cw i 1#32 (Scalar.cmpi .slt (aw i) 64#32) (hp i v) := rfl
theorem cond5_eq (i : grid0.Coords) (v : BitVec 32) : k0_cond5 i v = cw i 1#32 (Scalar.cmpi .slt (aw i) 64#32) (Scalar.xori (hp i v) 1#1) := rfl
theorem cond6_eq (i : grid0.Coords) (v : BitVec 32) : k0_cond6 i v = cw i 1#32 (Scalar.xori (Scalar.cmpi .slt (aw i) 64#32) 1#1) (hp i v) := rfl

theorem cw_q (t : Fin grid0.N) (k : Fin 2) : ∀ p : BitVec 1,
    cw (grid0.coords t) (BitVec.ofNat 32 k.val) (Scalar.cmpi .slt (aw (grid0.coords t)) 64#32) p = 1#1 ↔ t.val % 2 = k.val ∧ t.val < 64 ∧ p = 1#1 :=
  (by decide +kernel : ∀ (t : Fin grid0.N) (k : Fin 2) (p : BitVec 1),
    cw (grid0.coords t) (BitVec.ofNat 32 k.val) (Scalar.cmpi .slt (aw (grid0.coords t)) 64#32) p = 1#1 ↔ t.val % 2 = k.val ∧ t.val < 64 ∧ p = 1#1) t k
theorem cw_nq (t : Fin grid0.N) (k : Fin 2) : ∀ p : BitVec 1,
    cw (grid0.coords t) (BitVec.ofNat 32 k.val) (Scalar.xori (Scalar.cmpi .slt (aw (grid0.coords t)) 64#32) 1#1) p = 1#1 ↔ t.val % 2 = k.val ∧ ¬ t.val < 64 ∧ p = 1#1 :=
  (by decide +kernel : ∀ (t : Fin grid0.N) (k : Fin 2) (p : BitVec 1),
    cw (grid0.coords t) (BitVec.ofNat 32 k.val) (Scalar.xori (Scalar.cmpi .slt (aw (grid0.coords t)) 64#32) 1#1) p = 1#1 ↔ t.val % 2 = k.val ∧ ¬ t.val < 64 ∧ p = 1#1) t k

theorem xor_one : ∀ p : BitVec 1, Scalar.xori p 1#1 = 1#1 ↔ ¬ p = 1#1 := by decide

theorem cond1_iff (t : Fin grid0.N) (v : BitVec 32) : k0_cond1 (grid0.coords t) v = 1#1 ↔ t.val % 2 = 0 ∧ t.val < 64 ∧ hp (grid0.coords t) v = 1#1 := by
  rw [cond1_eq]; exact cw_q t 0 _
theorem cond2_iff (t : Fin grid0.N) (v : BitVec 32) : k0_cond2 (grid0.coords t) v = 1#1 ↔ t.val % 2 = 0 ∧ t.val < 64 ∧ ¬ hp (grid0.coords t) v = 1#1 := by
  rw [cond2_eq, ← xor_one]; exact cw_q t 0 _
theorem cond3_iff (t : Fin grid0.N) (v : BitVec 32) : k0_cond3 (grid0.coords t) v = 1#1 ↔ t.val % 2 = 0 ∧ ¬ t.val < 64 ∧ hp (grid0.coords t) v = 1#1 := by
  rw [cond3_eq]; exact cw_nq t 0 _
theorem cond4_iff (t : Fin grid0.N) (v : BitVec 32) : k0_cond4 (grid0.coords t) v = 1#1 ↔ t.val % 2 = 1 ∧ t.val < 64 ∧ hp (grid0.coords t) v = 1#1 := by
  rw [cond4_eq]; exact cw_q t 1 _
theorem cond5_iff (t : Fin grid0.N) (v : BitVec 32) : k0_cond5 (grid0.coords t) v = 1#1 ↔ t.val % 2 = 1 ∧ t.val < 64 ∧ ¬ hp (grid0.coords t) v = 1#1 := by
  rw [cond5_eq, ← xor_one]; exact cw_q t 1 _
theorem cond6_iff (t : Fin grid0.N) (v : BitVec 32) : k0_cond6 (grid0.coords t) v = 1#1 ↔ t.val % 2 = 1 ∧ ¬ t.val < 64 ∧ hp (grid0.coords t) v = 1#1 := by
  rw [cond6_eq]; exact cw_nq t 1 _

/-! ## Where the scales of a tile go -/

theorem off14_at : ∀ t : Fin grid0.N, k0_off14 (grid0.coords t) = ![t.val / 16, 512 * (t.val % 16)] := by decide +kernel
theorem off18_at : ∀ t : Fin grid0.N, k0_off18 (grid0.coords t) = ![t.val / 16, 512 * (t.val % 16)] := by decide +kernel
theorem off37_at : ∀ t : Fin grid0.N, k0_off37 (grid0.coords t) = ![t.val / 16, 512 * (t.val % 16)] := by decide +kernel
theorem off41_at : ∀ t : Fin grid0.N, k0_off41 (grid0.coords t) = ![t.val / 16, 512 * (t.val % 16)] := by decide +kernel

theorem inb_at : ∀ t : Fin grid0.N, t.val < 64 → ∀ a : Fin 2, (![t.val / 16, 512 * (t.val % 16)] : Fin 2 → Nat) a + S1x512.size a ≤ S4x8192.size a := by decide +kernel

/-- The side condition of the scale stores holds at every point, whatever the table holds. -/
theorem chk1 (t : Fin grid0.N) (v : BitVec 32) : k0_chk1 (grid0.coords t) v :=
  ⟨fun h a => by rw [off14_at]; exact inb_at t ((cond1_iff t v).mp h).2.1 a,
   fun h a => by rw [off18_at]; exact inb_at t ((cond2_iff t v).mp h).2.1 a,
   fun h a => by rw [off37_at]; exact inb_at t ((cond4_iff t v).mp h).2.1 a,
   fun h a => by rw [off41_at]; exact inb_at t ((cond5_iff t v).mp h).2.1 a⟩

/-! ## The block the projected tile is written to -/

/-- The last tile of a sequence of covered length `v`. -/
def lastw (v : BitVec 32) : BitVec 32 := Scalar.maxsi (Scalar.subi (fdivw (Scalar.addi v 511#32) 512#32) 1#32) 0#32
/-- The tile within its sequence. -/
def jw (i : grid0.Coords) : BitVec 32 := fmodw (prevw i) (Scalar.select (Scalar.cmpi .eq 16#32 0#32) 1#32 16#32)
/-- The table's word at a point: the covered length of the sequence of the projected tile. -/
def covw (pf : pre0.Contents (Elt F)) (i : grid0.Coords) : BitVec 32 := pf.at 0 (Rect.unit (s := S4) (k0_off1 i) S1.size (k0_off1_inb i)) numel1_S1

theorem transform_8_eq (pf : pre0.Contents (Elt F)) (i : grid0.Coords) :
    cc0_transform_8 k0_off1_inb numel1_S1 pf i = ![(fdivw (prevw i) 16#32).toNat, (Scalar.minsi (jw i) (lastw (covw pf i))).toNat, 0] := rfl
theorem transform_9_eq (pf : pre0.Contents (Elt F)) (i : grid0.Coords) :
    cc0_transform_9 k0_off1_inb numel1_S1 pf i = ![(fdivw (prevw i) 16#32).toNat, (Scalar.minsi (jw i) (lastw (covw pf i))).toNat, 0] := rfl

theorem bw_at : ∀ t : Fin grid0.N, (fdivw (prevw (grid0.coords t)) 16#32).toNat = (t.val - 1) / 16 := by decide +kernel
theorem jw_at : ∀ t : Fin grid0.N, jw (grid0.coords t) = BitVec.ofNat 32 ((t.val - 1) % 16) := by decide +kernel
theorem pw_at : ∀ t : Fin grid0.N, pw (grid0.coords t) = BitVec.ofNat 32 (512 * ((t.val - 1) % 16)) := by decide +kernel
theorem off1_at : ∀ t : Fin grid0.N, k0_off1 (grid0.coords t) = ![(t.val - 1) / 16] := by decide +kernel

theorem coords_surj (i : grid0.Coords) : ∃ t : Fin grid0.N, grid0.coords t = i := Pipeline.Grid.coords_surjective grid0 i

theorem maxsi_zero (x : BitVec 32) : ¬ (Scalar.maxsi x 0#32).slt 0#32 = true := by
  unfold Scalar.maxsi IntOp.maxsi
  by_cases h : (0#32).slt x = true
  · rw [if_pos h]; simp only [BitVec.slt, decide_eq_true_eq] at h ⊢; omega
  · rw [if_neg h]; decide

/-- The signed minimum of a tile number below 16 and a nonnegative word is that minimum read unsigned. -/
theorem minsi_toNat (a l : BitVec 32) (ha : a.toNat < 16) (hl : ¬ l.slt 0#32 = true) : (Scalar.minsi a l).toNat = min a.toNat l.toNat := by
  have h1 : l.toInt = l.toNat := by
    rw [BitVec.toInt_eq_toNat_cond]
    split
    · rfl
    · exfalso; apply hl; simp [BitVec.slt, BitVec.toInt_eq_toNat_cond]; omega
  have h2 : a.toInt = a.toNat := by
    rw [BitVec.toInt_eq_toNat_cond]; split
    · rfl
    · omega
  unfold Scalar.minsi IntOp.minsi
  by_cases h : a.slt l = true
  · rw [if_pos h]; simp only [BitVec.slt, h1, h2, decide_eq_true_eq] at h; omega
  · rw [if_neg h]; simp only [BitVec.slt, h1, h2, decide_eq_true_eq] at h; omega

/-- The tile within its sequence that the results are written to at a point. -/
def jx (t : Nat) (v : BitVec 32) : Nat := min ((t - 1) % 16) (lastw v).toNat
theorem jx_lt (t : Nat) (v : BitVec 32) : jx t v < 16 := lt_of_le_of_lt (Nat.min_le_left _ _) (Nat.mod_lt _ (by decide))

theorem minsi_at (t : Fin grid0.N) (v : BitVec 32) : (Scalar.minsi (jw (grid0.coords t)) (lastw v)).toNat = jx t.val v := by
  have hj : (jw (grid0.coords t)).toNat = (t.val - 1) % 16 := by
    rw [jw_at, BitVec.toNat_ofNat]; omega
  rw [minsi_toNat _ (lastw v) (by rw [hj]; omega) (maxsi_zero _), hj]; rfl

theorem transform_8_at (pf : pre0.Contents (Elt F)) (t : Fin grid0.N) :
    cc0_transform_8 k0_off1_inb numel1_S1 pf (grid0.coords t) = ![(t.val - 1) / 16, jx t.val (covw pf (grid0.coords t)), 0] := by
  rw [transform_8_eq, bw_at, minsi_at]
theorem transform_9_at (pf : pre0.Contents (Elt F)) (t : Fin grid0.N) :
    cc0_transform_9 k0_off1_inb numel1_S1 pf (grid0.coords t) = ![(t.val - 1) / 16, jx t.val (covw pf (grid0.coords t)), 0] := by
  rw [transform_9_eq, bw_at, minsi_at]

theorem block_inb (t : Fin grid0.N) (v : BitVec 32) : ∀ a : Fin 3, ((![(t.val - 1) / 16, jx t.val v, 0] : Fin 3 → Nat) a + 1) * S1x512x2048.size a ≤ S4x8192x2048.size a := by
  have hN : t.val < 65 := lt_of_lt_of_eq t.isLt N_0
  have hj := jx_lt t.val v
  intro a
  match a with
  | 0 => show ((t.val - 1) / 16 + 1) * 1 ≤ 4; omega
  | 1 => show (jx t.val v + 1) * 512 ≤ 8192; omega
  | 2 => show (0 + 1) * 2048 ≤ 2048; omega

/-- The pipeline's side condition holds whatever the table holds. -/
theorem ok0_all (pf : pre0.Contents (Elt F)) : ok0 pf := by
  unfold ok0
  refine ⟨fun i => ?_, fun i => ?_⟩
  · obtain ⟨t, rfl⟩ := coords_surj i
    exact ⟨fun a => by rw [transform_8_at]; exact block_inb t _ a, .inr (Affine.block_words_dvd (of_decide_eq_true rfl) (by decide))⟩
  · obtain ⟨t, rfl⟩ := coords_surj i
    exact ⟨fun a => by rw [transform_9_at]; exact block_inb t _ a, .inr (Affine.block_words_dvd (of_decide_eq_true rfl) (by decide))⟩

end Cert.KernelIdeal.Tile

end
-- ==== Proof.Vals.lean ====
/-
  What the kernel computes for one tile of 512 rows, as functions of the tile: its codes, its row scales, and its
  product with a weight matrix; and the lemmas that read these functions off the pieces a loop stores.
-/
module

public import proofs.«01_k».proof.Proof.Cases
public import proofs.«01_k».proof.Proof.Gen.KernelIdeal.Skeleton
public import Idealize.ShloMosaic.Lib.Writes
public import Idealize.ShloMosaic.Lib.WholeRead
public import Idealize.ShloMosaic.Lib.Pointwise.Index
public import Idealize.ShloMosaic.Lib.Pipeline.ValueKit

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The tile's functions -/

/-- Rows `32 n .. 32 n + 31` of a tile. -/
def xRows (X : Vec F S1x512x2048 .bf16) (n : ℕ) : Vec F S1x32x2048 .bf16 :=
  fun j => X (ix3 0 ⟨(32 * n + (j 1).val) % 512, Nat.mod_lt _ (by decide)⟩ (j 2))
/-- The codes of 32 rows. -/
def rowCodes (x : Vec F S1x32x2048 .bf16) (g : Vec F S1x2048 .f32) : Vec F S32x2048 .fp8e4m3 := k0_pay16 (k0_pay5 x g) (k0_pay6 x) (k0_pay7 x g)
/-- The same codes with a leading unit axis. -/
def rowCodes3 (x : Vec F S1x32x2048 .bf16) (g : Vec F S1x2048 .f32) : Vec F S1x32x2048 .fp8e4m3 := k0_pay15 (k0_pay5 x g) (k0_pay6 x) (k0_pay7 x g)
/-- The scales of 32 rows, each over a whole row of lanes. -/
def rowScales (x : Vec F S1x32x2048 .bf16) (g : Vec F S1x2048 .f32) : Vec F S32x128 .f32 := k0_pay17 (k0_pay7 x g)

/-- A tile's codes, as the result block holds them. -/
def codes3 (X : Vec F S1x512x2048 .bf16) (g : Vec F S1x2048 .f32) : Vec F S1x512x2048 .fp8e4m3 :=
  fun y => rowCodes3 (xRows X ((y 1).val / 32)) g (ix3 0 ⟨(y 1).val % 32, Nat.mod_lt _ (by decide)⟩ (y 2))
/-- A tile's codes, as the scratch buffer holds them. -/
def codes2 (X : Vec F S1x512x2048 .bf16) (g : Vec F S1x2048 .f32) : Vec F S512x2048 .fp8e4m3 :=
  fun y => rowCodes (xRows X ((y 0).val / 32)) g (ix2 ⟨(y 0).val % 32, Nat.mod_lt _ (by decide)⟩ (y 1))
/-- A tile's row scales, as the scratch buffer holds them. -/
def scales2 (X : Vec F S1x512x2048 .bf16) (g : Vec F S1x2048 .f32) : Vec F S512x128 .f32 :=
  fun y => rowScales (xRows X ((y 0).val / 32)) g (ix2 ⟨(y 0).val % 32, Nat.mod_lt _ (by decide)⟩ (y 1))
/-- Columns `256 n .. 256 n + 255` of a weight matrix. -/
def wCols (W : Vec F S2048x2048 .fp8e4m3) (n : ℕ) : Vec F S2048x256 .fp8e4m3 :=
  fun j => W (ix2 (j 0) ⟨(256 * n + (j 1).val) % 2048, Nat.mod_lt _ (by decide)⟩)
/-- The same columns of the weights' scales. -/
def sCols (s : Vec F S1x2048 .f32) (n : ℕ) : Vec F S1x256 .f32 :=
  fun j => s (ix2 (j 0) ⟨(256 * n + (j 1).val) % 2048, Nat.mod_lt _ (by decide)⟩)
/-- The product of a tile's codes with a weight matrix, scaled. -/
def proj (C : Vec F S512x2048 .fp8e4m3) (W : Vec F S2048x2048 .fp8e4m3) (r : Vec F S512x128 .f32) (s : Vec F S1x2048 .f32) : Vec F S1x512x2048 .bf16 :=
  fun y => k0_pay3 C (wCols W ((y 2).val / 256)) r (sCols s ((y 2).val / 256)) (ix3 0 (y 1) ⟨(y 2).val % 256, Nat.mod_lt _ (by decide)⟩)
/-- A tile's row scales turned into one row of lanes. -/
def lanes (r : Vec F S512x128 .f32) : Vec F S1x512 .f32 := k0_pay23 (fun j => r (ix2 (j 0) 0))
/-- The scales' array with tile `t`'s scales written over it. -/
def scalesU (t : ℕ) (L : Vec F S1x512 .f32) (Y : Vec F S4x8192 .f32) : Vec F S4x8192 .f32 :=
  fun y => if (y 0).val = t / 16 ∧ (y 1).val / 512 = t % 16 then L (ix2 0 ⟨(y 1).val % 512, Nat.mod_lt _ (by decide)⟩) else Y y

/-! ## The payloads of the other loops are the same functions -/

theorem pay20_eq (x : Vec F S1x32x2048 .bf16) (g : Vec F S1x2048 .f32) : k0_pay20 (k0_pay10 x g) (k0_pay11 x) (k0_pay12 x g) = rowCodes3 x g := rfl
theorem pay21_eq (x : Vec F S1x32x2048 .bf16) (g : Vec F S1x2048 .f32) : k0_pay21 (k0_pay10 x g) (k0_pay11 x) (k0_pay12 x g) = rowCodes x g := rfl
theorem pay22_eq (x : Vec F S1x32x2048 .bf16) (g : Vec F S1x2048 .f32) : k0_pay22 (k0_pay11 x) (k0_pay12 x g) = rowScales x g := rfl
theorem pay32_eq (x : Vec F S1x32x2048 .bf16) (g : Vec F S1x2048 .f32) : k0_pay32 (k0_pay29 x g) (Scalar.ofBits (F := F) .f32 0x43E00000#32) (k0_pay30 (F := F)) = rowCodes3 x g := rfl
theorem pay33_eq (x : Vec F S1x32x2048 .bf16) (g : Vec F S1x2048 .f32) : k0_pay33 (k0_pay29 x g) (Scalar.ofBits (F := F) .f32 0x43E00000#32) (k0_pay30 (F := F)) = rowCodes x g := rfl
theorem pay34_eq (x : Vec F S1x32x2048 .bf16) (g : Vec F S1x2048 .f32) : k0_pay34 (k0_pay28 x g) = rowScales x g := rfl

/-! ## Pieces that store a function -/

variable {s : Shape} {e : EltTy}

/-- A list of pieces stores `G`, and reaches every index of `S`. -/
def Fills (L : List (View.Piece (Elt F) s e)) (S : Set s.Idx) (G : s.Idx → Elt F e) : Prop :=
  (∀ p ∈ L, ∀ x, p.2 x = G (p.1.emb x)) ∧ ∀ y ∈ S, ∃ p ∈ L, y ∈ p.1.set

theorem Fills.append {L M : List (View.Piece (Elt F) s e)} {S T : Set s.Idx} {G : s.Idx → Elt F e} (hL : Fills L S G) (hM : Fills M T G) :
    Fills (L ++ M) (S ∪ T) G :=
  ⟨fun p hp => (List.mem_append.1 hp).elim (hL.1 p) (hM.1 p),
   fun y hy => hy.elim (fun h => (hL.2 y h).imp fun p hp => ⟨List.mem_append_left _ hp.1, hp.2⟩) (fun h => (hM.2 y h).imp fun p hp => ⟨List.mem_append_right _ hp.1, hp.2⟩)⟩

theorem Fills.mono {L : List (View.Piece (Elt F) s e)} {S T : Set s.Idx} {G : s.Idx → Elt F e} (hL : Fills L S G) (h : ∀ y, y ∈ T → y ∈ S) : Fills L T G :=
  ⟨hL.1, fun y hy => hL.2 y (h y hy)⟩

/-- The pieces of a loop, trip by trip: what each trip's pieces store and reach, the loop's do. -/
theorem Fills.loop {N : ℕ} (L : ℕ → List (View.Piece (Elt F) s e)) (T : Fin N → List (View.Piece (Elt F) s e)) (S : Fin N → Set s.Idx) (G : s.Idx → Elt F e)
    (h0 : L 0 = []) (hs : ∀ k : Fin N, L (k.val + 1) = T k ++ L k.val) (hT : ∀ k, Fills (T k) (S k) G) : Fills (L N) {y | ∃ k, y ∈ S k} G := by
  have key : ∀ n, n ≤ N → Fills (L n) {y | ∃ k : Fin N, k.val < n ∧ y ∈ S k} G := by
    intro n
    induction n with
    | zero => intro _; rw [h0]; exact ⟨fun p hp => (List.not_mem_nil hp).elim, fun y ⟨k, hk, _⟩ => (Nat.not_lt_zero _ hk).elim⟩
    | succ n ih =>
      intro hn
      rw [hs ⟨n, hn⟩]
      refine ((hT ⟨n, hn⟩).append (ih (by omega))).mono fun y ⟨k, hk, hy⟩ => ?_
      rcases Nat.lt_succ_iff_lt_or_eq.1 hk with h | h
      · exact .inr ⟨k, h, hy⟩
      · left; have : k = ⟨n, hn⟩ := Fin.ext h
        rw [← this]; exact hy
  exact (key N le_rfl).mono fun y ⟨k, hy⟩ => ⟨k, k.isLt, hy⟩

/-- Pieces that reach an index leave the function there. -/
theorem Fills.read_at {sig' : RefSig} {κ : Kind} {sp : Space} (v : View sig' κ sp s e) (f : v.ty.Contents (Elt F)) {L : List (View.Piece (Elt F) s e)} {S : Set s.Idx} {G : s.Idx → Elt F e}
    (h : Fills L S G) {y : s.Idx} (hy : y ∈ S) : v.read (Elt F) (v.writes (Elt F) f L) y = G y :=
  View.read_writes_apply_of_pieces v f G L h.1 y (h.2 y hy)

/-- Pieces that reach everything leave the function. -/
theorem Fills.read {sig' : RefSig} {κ : Kind} {sp : Space} (v : View sig' κ sp s e) (f : v.ty.Contents (Elt F)) {L : List (View.Piece (Elt F) s e)} {S : Set s.Idx} {G : s.Idx → Elt F e}
    (h : Fills L S G) (hS : ∀ y, y ∈ S) : v.read (Elt F) (v.writes (Elt F) f L) = G :=
  funext fun y => View.read_writes_apply_of_pieces v f G L h.1 y (h.2 y (hS y))

theorem Fills.single {off size : Fin s.rank → ℕ} (inb : ∀ a, off a + size a ≤ s.size a) (f : (Rect.unit off size inb).shape.Idx → Elt F e) (S : Set s.Idx) (G : s.Idx → Elt F e)
    (hf : ∀ x, f x = G ((Rect.unit off size inb).emb x)) (hS : ∀ y ∈ S, ∀ a, off a ≤ y a ∧ (y a : ℕ) < off a + size a) :
    Fills (F := F) [⟨Rect.unit off size inb, f⟩] S G :=
  ⟨fun p hp => by obtain rfl := List.mem_singleton.1 hp; exact hf, fun y hy => ⟨_, List.mem_singleton.2 rfl, (Rect.mem_set_unit (inb := inb)).2 (hS y hy)⟩⟩

/-! ## Loads of a whole memref -/

variable {sp : Space}

theorem read_rows {m : Memref sig .tc sp S1x512x2048 .bf16} (hm : m.IsWhole) (X : Vec F S1x512x2048 .bf16) {off : Fin 3 → ℕ} {n : ℕ} (ho : off = ![0, 32 * n, 0])
    (inb : ∀ a, off a + S1x32x2048.size a ≤ S1x512x2048.size a) :
    View.readAt (Elt F) m.view (Rect.unit (s := S1x512x2048) off S1x32x2048.size inb).toLoadRect (hm.unread X) = xRows X n := by
  subst ho
  funext j
  rw [hm.readAt_unread]
  have h1 : 32 * n + 32 ≤ 512 := inb 1
  have hj : (j 1).val < 32 := (j 1).isLt
  unfold xRows
  refine congrArg X (funext fun a => Fin.ext ?_)
  match a with
  | 0 => show 0 + 1 * (j 0).val = 0; have : (j 0).val < 1 := (j 0).isLt; omega
  | 1 => show 32 * n + 1 * (j 1).val = (32 * n + (j 1).val) % 512; omega
  | 2 => show 0 + 1 * (j 2).val = (j 2).val; omega

theorem read_whole2 {n0 n1 : ℕ} {m : Memref sig .tc sp ⟨2, ![n0, n1]⟩ e} (hm : m.IsWhole) (X : Vec F ⟨2, ![n0, n1]⟩ e)
    (inb : ∀ a, (![0, 0] : Fin 2 → ℕ) a + (⟨2, ![n0, n1]⟩ : Shape).size a ≤ (⟨2, ![n0, n1]⟩ : Shape).size a) :
    View.readAt (Elt F) m.view (Rect.unit (s := ⟨2, ![n0, n1]⟩) ![0, 0] (⟨2, ![n0, n1]⟩ : Shape).size inb).toLoadRect (hm.unread X) = X := by
  funext j
  rw [hm.readAt_unread]
  refine congrArg X (funext fun a => Fin.ext ?_)
  match a with
  | 0 => show 0 + 1 * (j 0).val = (j 0).val; omega
  | 1 => show 0 + 1 * (j 1).val = (j 1).val; omega

theorem read_cols {n0 : ℕ} {m : Memref sig .tc sp ⟨2, ![n0, 2048]⟩ e} (hm : m.IsWhole) (X : Vec F ⟨2, ![n0, 2048]⟩ e) {off : Fin 2 → ℕ} {n : ℕ} (ho : off = ![0, 256 * n])
    (inb : ∀ a, off a + (⟨2, ![n0, 256]⟩ : Shape).size a ≤ (⟨2, ![n0, 2048]⟩ : Shape).size a) :
    View.readAt (Elt F) m.view (Rect.unit (s := ⟨2, ![n0, 2048]⟩) off (⟨2, ![n0, 256]⟩ : Shape).size inb).toLoadRect (hm.unread X)
      = fun j => X (ix2 (j 0) ⟨(256 * n + (j 1).val) % 2048, Nat.mod_lt _ (by decide)⟩) := by
  subst ho
  funext j
  rw [hm.readAt_unread]
  have h1 : 256 * n + 256 ≤ 2048 := inb 1
  have hj : (j 1).val < 256 := (j 1).isLt
  refine congrArg X (funext fun a => Fin.ext ?_)
  match a with
  | 0 => show 0 + 1 * (j 0).val = (j 0).val; omega
  | 1 => show 256 * n + 1 * (j 1).val = (256 * n + (j 1).val) % 2048; omega

theorem read_col0 {m : Memref sig .tc sp S512x128 .f32} (f : m.view.ty.Contents (Elt F)) {X : Vec F S512x128 .f32} (hf : m.view.read (Elt F) f = X)
    (inb : ∀ a, (![0, 0] : Fin 2 → ℕ) a + S512x1.size a ≤ S512x128.size a) :
    View.readAt (Elt F) m.view (Rect.unit (s := S512x128) ![0, 0] S512x1.size inb).toLoadRect f = fun j => X (ix2 (j 0) 0) := by
  subst hf
  funext j
  rw [View.readAt_apply]
  refine congrArg (m.view.read (Elt F) f) (funext fun a => Fin.ext ?_)
  match a with
  | 0 => show 0 + 1 * (j 0).val = (j 0).val; omega
  | 1 => show 0 + 1 * (j 1).val = 0; have : (j 1).val < 1 := (j 1).isLt; omega

/-! ## The pieces of one trip -/

theorem fills_codes3 (X : Vec F S1x512x2048 .bf16) (g : Vec F S1x2048 .f32) {off : Fin 3 → ℕ} {n : ℕ} (ho : off = ![0, 32 * n, 0])
    (inb : ∀ a, off a + S1x32x2048.size a ≤ S1x512x2048.size a) (f : Vec F S1x32x2048 .fp8e4m3) (hf : f = rowCodes3 (xRows X n) g) :
    Fills (F := F) (s := S1x512x2048) (e := .fp8e4m3) [⟨Rect.unit off S1x32x2048.size inb, f⟩] {y | (y 1).val / 32 = n} (codes3 X g) := by
  subst ho hf
  refine Fills.single _ _ _ _ (fun x => ?_) (fun y (hy : (y 1).val / 32 = n) a => ?_)
  · have e1 : ((Rect.unit (s := S1x512x2048) ![0, 32 * n, 0] S1x32x2048.size inb).emb x 1).val = 32 * n + (x 1).val := ValueKit.rect_emb_unit_val _ _ inb x 1
    have e2 : (Rect.unit (s := S1x512x2048) ![0, 32 * n, 0] S1x32x2048.size inb).emb x 2 = x 2 := Fin.ext ((ValueKit.rect_emb_unit_val _ _ inb x 2).trans (Nat.zero_add _))
    have hx : (x 1).val < 32 := (x 1).isLt
    have hx0 : (x 0).val < 1 := (x 0).isLt
    unfold codes3
    rw [e2]
    simp only [e1]
    rw [show (32 * n + (x 1).val) / 32 = n by omega]
    refine congrArg (rowCodes3 (xRows X n) g) (funext fun a => Fin.ext ?_)
    match a with
    | 0 => show (x 0).val = 0; omega
    | 1 => show (x 1).val = (32 * n + (x 1).val) % 32; omega
    | 2 => rfl
  · have h0 : (y 0).val < 1 := (y 0).isLt
    have h2 : (y 2).val < 2048 := (y 2).isLt
    match a with
    | 0 => show 0 ≤ (y 0).val ∧ (y 0).val < 0 + 1; omega
    | 1 => show 32 * n ≤ (y 1).val ∧ (y 1).val < 32 * n + 32; omega
    | 2 => show 0 ≤ (y 2).val ∧ (y 2).val < 0 + 2048; omega

/-- A tile's function kept row by row in blocks of 32 rows: one trip's store of it. -/
theorem fills_rows2 {N : ℕ} {e : EltTy} (R : ℕ → Vec F ⟨2, ![32, N]⟩ e) {off : Fin 2 → ℕ} {n : ℕ} (ho : off = ![32 * n, 0])
    (inb : ∀ a, off a + (⟨2, ![32, N]⟩ : Shape).size a ≤ (⟨2, ![512, N]⟩ : Shape).size a) (f : Vec F ⟨2, ![32, N]⟩ e) (hf : f = R n) :
    Fills (F := F) (s := ⟨2, ![512, N]⟩) (e := e) [⟨Rect.unit off (⟨2, ![32, N]⟩ : Shape).size inb, f⟩] {y | (y 0).val / 32 = n}
      (fun y => R ((y 0).val / 32) (ix2 ⟨(y 0).val % 32, Nat.mod_lt _ (by decide)⟩ (y 1))) := by
  subst ho hf
  refine Fills.single _ _ _ _ (fun x => ?_) (fun y (hy : (y 0).val / 32 = n) a => ?_)
  · have e1 : ((Rect.unit (s := ⟨2, ![512, N]⟩) ![32 * n, 0] (⟨2, ![32, N]⟩ : Shape).size inb).emb x 0).val = 32 * n + (x 0).val := ValueKit.rect_emb_unit_val _ _ inb x 0
    have e2 : (Rect.unit (s := ⟨2, ![512, N]⟩) ![32 * n, 0] (⟨2, ![32, N]⟩ : Shape).size inb).emb x 1 = x 1 := Fin.ext ((ValueKit.rect_emb_unit_val _ _ inb x 1).trans (Nat.zero_add _))
    have hx : (x 0).val < 32 := (x 0).isLt
    rw [e2]
    simp only [e1]
    rw [show (32 * n + (x 0).val) / 32 = n by omega]
    refine congrArg (R n) (funext fun a => Fin.ext ?_)
    match a with
    | 0 => show (x 0).val = (32 * n + (x 0).val) % 32; omega
    | 1 => rfl
  · have h1 : (y 1).val < N := (y 1).isLt
    match a with
    | 0 => show 32 * n ≤ (y 0).val ∧ (y 0).val < 32 * n + 32; omega
    | 1 => show 0 ≤ (y 1).val ∧ (y 1).val < 0 + N; omega

theorem fills_proj (C : Vec F S512x2048 .fp8e4m3) (W : Vec F S2048x2048 .fp8e4m3) (r : Vec F S512x128 .f32) (sc : Vec F S1x2048 .f32) {off : Fin 3 → ℕ} {n : ℕ} (ho : off = ![0, 0, 256 * n])
    (inb : ∀ a, off a + S1x512x256.size a ≤ S1x512x2048.size a) (f : Vec F S1x512x256 .bf16) (hf : f = k0_pay3 C (wCols W n) r (sCols sc n)) :
    Fills (F := F) (s := S1x512x2048) (e := .bf16) [⟨Rect.unit off S1x512x256.size inb, f⟩] {y | (y 2).val / 256 = n} (proj C W r sc) := by
  subst ho hf
  refine Fills.single _ _ _ _ (fun x => ?_) (fun y (hy : (y 2).val / 256 = n) a => ?_)
  · have e1 : (Rect.unit (s := S1x512x2048) ![0, 0, 256 * n] S1x512x256.size inb).emb x 1 = x 1 := Fin.ext ((ValueKit.rect_emb_unit_val _ _ inb x 1).trans (Nat.zero_add _))
    have e2 : ((Rect.unit (s := S1x512x2048) ![0, 0, 256 * n] S1x512x256.size inb).emb x 2).val = 256 * n + (x 2).val := ValueKit.rect_emb_unit_val _ _ inb x 2
    have hx : (x 2).val < 256 := (x 2).isLt
    have hx0 : (x 0).val < 1 := (x 0).isLt
    unfold proj
    rw [e1]
    simp only [e2]
    rw [show (256 * n + (x 2).val) / 256 = n by omega]
    refine congrArg (k0_pay3 C (wCols W n) r (sCols sc n)) (funext fun a => Fin.ext ?_)
    match a with
    | 0 => show (x 0).val = 0; omega
    | 1 => rfl
    | 2 => show (x 2).val = (256 * n + (x 2).val) % 256; omega
  · have h0 : (y 0).val < 1 := (y 0).isLt
    have h1 : (y 1).val < 512 := (y 1).isLt
    match a with
    | 0 => show 0 ≤ (y 0).val ∧ (y 0).val < 0 + 1; omega
    | 1 => show 0 ≤ (y 1).val ∧ (y 1).val < 0 + 512; omega
    | 2 => show 256 * n ≤ (y 2).val ∧ (y 2).val < 256 * n + 256; omega

theorem fills_lanes (L : Vec F S1x512 .f32) (t : ℕ) (inb : ∀ a, (![t / 16, 512 * (t % 16)] : Fin 2 → ℕ) a + S1x512.size a ≤ S4x8192.size a) :
    Fills (F := F) (s := S4x8192) (e := .f32) [⟨Rect.unit ![t / 16, 512 * (t % 16)] S1x512.size inb, L⟩] {y | (y 0).val = t / 16 ∧ (y 1).val / 512 = t % 16}
      (fun y => L (ix2 0 ⟨(y 1).val % 512, Nat.mod_lt _ (by decide)⟩)) := by
  refine Fills.single _ _ _ _ (fun x => ?_) (fun y (hy : (y 0).val = t / 16 ∧ (y 1).val / 512 = t % 16) a => ?_)
  · have e1 : ((Rect.unit (s := S4x8192) ![t / 16, 512 * (t % 16)] S1x512.size inb).emb x 1).val = 512 * (t % 16) + (x 1).val := ValueKit.rect_emb_unit_val _ _ inb x 1
    have hx : (x 1).val < 512 := (x 1).isLt
    have hx0 : (x 0).val < 1 := (x 0).isLt
    simp only [e1]
    refine congrArg L (funext fun a => Fin.ext ?_)
    match a with
    | 0 => show (x 0).val = 0; omega
    | 1 => show (x 1).val = (512 * (t % 16) + (x 1).val) % 512; omega
  · match a with
    | 0 => show t / 16 ≤ (y 0).val ∧ (y 0).val < t / 16 + 1; omega
    | 1 => show 512 * (t % 16) ≤ (y 1).val ∧ (y 1).val < 512 * (t % 16) + 512; omega

/-- One store of a tile's lanes into the scales' array. -/
theorem read_scales {m : Memref sig .tc sp S4x8192 .f32} (hm : m.IsWhole) (Y : Vec F S4x8192 .f32) {off : Fin 2 → ℕ} {t : ℕ} (ho : off = ![t / 16, 512 * (t % 16)])
    (inb : ∀ a, off a + S1x512.size a ≤ S4x8192.size a) (L L' : Vec F S1x512 .f32) (hL : L = L') :
    m.view.read (Elt F) (m.view.writes (Elt F) (hm.unread Y) [⟨Rect.unit (s := S4x8192) off S1x512.size inb, L⟩]) = scalesU t L' Y := by
  subst ho hL
  funext y
  unfold scalesU
  by_cases h : (y 0).val = t / 16 ∧ (y 1).val / 512 = t % 16
  · rw [if_pos h]
    exact (fills_lanes L t inb).read_at m.view _ h
  · rw [if_neg h, View.read_writes_apply_of_forall_not_mem, hm.read_unread]
    intro p hp
    obtain rfl := List.mem_singleton.1 hp
    intro hy
    have := (Rect.mem_set_unit (inb := inb)).1 hy
    have h0 : t / 16 ≤ (y 0).val ∧ (y 0).val < t / 16 + 1 := this 0
    have h1 : 512 * (t % 16) ≤ (y 1).val ∧ (y 1).val < 512 * (t % 16) + 512 := this 1
    exact h ⟨by omega, by omega⟩

end Cert.KernelIdeal.Tile

end
-- ==== Proof.LoopVals.lean ====
/-
  What the kernel's ten loops leave in the buffers they write: each loop's pieces store the tile's function over
  the rows, or the columns, it walks.
-/
module

public import proofs.«01_k».proof.Proof.Vals
public import proofs.«01_k».proof.Proof.Gen.KernelIdeal.Loops

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {𝒱 : Variants} {c : Dev nD} {bd : Option 𝒱.V} {i : grid0.Coords} {arg1 : Memref sig .tc .smem S4 .i32} {harg1 : arg1.IsWhole} {arg2 : Memref sig .tc .vmem S1x512x2048 .bf16} {harg2 : arg2.IsWhole} {arg3 : Memref sig .tc .vmem S1x2048 .f32} {harg3 : arg3.IsWhole} {arg4 : Memref sig .tc .vmem S2048x2048 .fp8e4m3} {harg4 : arg4.IsWhole} {arg5 : Memref sig .tc .vmem S2048x2048 .fp8e4m3} {harg5 : arg5.IsWhole} {arg6 : Memref sig .tc .vmem S1x2048 .f32} {harg6 : arg6.IsWhole} {arg7 : Memref sig .tc .vmem S1x2048 .f32} {harg7 : arg7.IsWhole} {arg8 : Memref sig .tc .vmem S1x512x2048 .fp8e4m3} {harg8 : arg8.IsWhole} {arg9 : Memref sig .tc .vmem S4x8192 .f32} {harg9 : arg9.IsWhole} {arg10 : Memref sig .tc .vmem S1x512x2048 .bf16} {harg10 : arg10.IsWhole} {arg11 : Memref sig .tc .vmem S1x512x2048 .bf16} {harg11 : arg11.IsWhole} {arg12 : Memref sig .tc .vmem S512x2048 .fp8e4m3} {harg12 : arg12.IsWhole} {arg13 : Memref sig .tc .vmem S512x2048 .fp8e4m3} {harg13 : arg13.IsWhole} {arg14 : Memref sig .tc .vmem S512x128 .f32} {harg14 : arg14.IsWhole} {arg15 : Memref sig .tc .vmem S512x128 .f32} {harg15 : arg15.IsWhole}
  {x2 : Vec F S1x512x2048 .bf16} {x3 : Vec F S1x2048 .f32} {x4 : Vec F S2048x2048 .fp8e4m3} {x5 : Vec F S2048x2048 .fp8e4m3} {x6 : Vec F S1x2048 .f32} {x7 : Vec F S1x2048 .f32} {x8 : Vec F S1x512x2048 .fp8e4m3} {x9 : Vec F S4x8192 .f32} {x10 : Vec F S1x512x2048 .bf16} {x11 : Vec F S1x512x2048 .bf16} {x12 : Vec F S512x2048 .fp8e4m3} {x13 : Vec F S512x2048 .fp8e4m3} {x14 : Vec F S512x128 .f32} {x15 : Vec F S512x128 .f32}

theorem fills_t1_codes : Fills (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) k0_t1_loop.trips).1 {y | 0 ≤ (y 1).val / 32 ∧ (y 1).val / 32 < 8} (codes3 x2 x3) :=
  (Fills.loop (fun n => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) n).1) (fun k => (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) k).1) _ (codes3 x2 x3) rfl
    (fun k => congrArg (fun q => q.1) (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) k))
    (fun k => by
      unfold tripL_k0_t1 trip_k0_t1
      exact fills_codes3 x2 x3 (n := k.val) (k0_off5_eq k) _ _ (by simp only [trip_k0_t1.sl.r, trip_k0_t1.sl.r_1, trip_k0_t1.sl.r_2]; rw [read_rows harg2 x2 (n := k.val) (k0_off5_eq k), read_whole2 harg3 x3]; rfl))).mono fun y hy => ⟨⟨(y 1).val / 32, hy.2⟩, rfl⟩

theorem fills_t1_k : Fills (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) k0_t1_loop.trips).2.1 {y | (y 2).val / 256 < 8} (proj x13 x4 x15 x6) :=
  (Fills.loop (fun n => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) n).2.1) (fun k => (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) k).2.1) _ (proj x13 x4 x15 x6) rfl
    (fun k => congrArg (fun q => q.2.1) (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) k))
    (fun k => by
      unfold tripL_k0_t1 trip_k0_t1
      exact fills_proj x13 x4 x15 x6 (k0_off4_eq k) _ _ (by rw [read_whole2, read_whole2, read_cols harg4 x4 (k0_off2_eq k), read_cols harg6 x6 (k0_off3_eq k)]; rfl))).mono fun y hy => ⟨⟨(y 2).val / 256, hy⟩, rfl⟩

theorem fills_t1_scratch : Fills (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) k0_t1_loop.trips).2.2.1 {y | 0 ≤ (y 0).val / 32 ∧ (y 0).val / 32 < 8} (codes2 x2 x3) :=
  (Fills.loop (fun n => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) n).2.2.1) (fun k => (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) k).2.2.1) _ (codes2 x2 x3) rfl
    (fun k => congrArg (fun q => q.2.2.1) (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) k))
    (fun k => by
      unfold tripL_k0_t1 trip_k0_t1
      exact fills_rows2 (fun n => rowCodes (xRows x2 n) x3) (n := k.val) (k0_off6_eq k) _ _ (by simp only [trip_k0_t1.sl.r, trip_k0_t1.sl.r_1, trip_k0_t1.sl.r_2]; rw [read_rows harg2 x2 (n := k.val) (k0_off5_eq k), read_whole2 harg3 x3]; rfl))).mono fun y hy => ⟨⟨(y 0).val / 32, hy.2⟩, rfl⟩

theorem fills_t1_scales : Fills (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) k0_t1_loop.trips).2.2.2 {y | 0 ≤ (y 0).val / 32 ∧ (y 0).val / 32 < 8} (scales2 x2 x3) :=
  (Fills.loop (fun n => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) n).2.2.2) (fun k => (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) k).2.2.2) _ (scales2 x2 x3) rfl
    (fun k => congrArg (fun q => q.2.2.2) (pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg13.unread x13) (harg15.unread x15) k))
    (fun k => by
      unfold tripL_k0_t1 trip_k0_t1
      exact fills_rows2 (fun n => rowScales (xRows x2 n) x3) (n := k.val) (k0_off7_eq k) _ _ (by simp only [trip_k0_t1.sl.r, trip_k0_t1.sl.r_1, trip_k0_t1.sl.r_2]; rw [read_rows harg2 x2 (n := k.val) (k0_off5_eq k), read_whole2 harg3 x3]; rfl))).mono fun y hy => ⟨⟨(y 0).val / 32, hy.2⟩, rfl⟩

theorem fills_t2_codes : Fills (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) k0_t2_loop.trips).1 {y | 8 ≤ (y 1).val / 32 ∧ (y 1).val / 32 < 16} (codes3 x2 x3) :=
  (Fills.loop (fun n => (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) n).1) (fun k => (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) k).1) _ (codes3 x2 x3) rfl
    (fun k => congrArg (fun q => q.1) (pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) k))
    (fun k => by
      unfold tripL_k0_t2 trip_k0_t2
      exact fills_codes3 x2 x3 (n := (k.val + 8)) ((k0_off11_eq k).trans (by rw [show 32 * (k.val + 8) = 32 * k.val + 256 by omega])) _ _ (by simp only [trip_k0_t2.sl.r, trip_k0_t2.sl.r_1, trip_k0_t2.sl.r_2]; rw [read_rows harg2 x2 (n := (k.val + 8)) ((k0_off11_eq k).trans (by rw [show 32 * (k.val + 8) = 32 * k.val + 256 by omega])), read_whole2 harg3 x3]; rfl))).mono fun y hy => ⟨⟨(y 1).val / 32 - 8, by have h1 := hy.1; have h2 := hy.2; exact (show (y 1).val / 32 - 8 < 8 by omega)⟩, (show (y 1).val / 32 = (y 1).val / 32 - 8 + 8 by have h1 := hy.1; omega)⟩

theorem fills_t2_v : Fills (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) k0_t2_loop.trips).2.1 {y | (y 2).val / 256 < 8} (proj x13 x5 x15 x7) :=
  (Fills.loop (fun n => (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) n).2.1) (fun k => (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) k).2.1) _ (proj x13 x5 x15 x7) rfl
    (fun k => congrArg (fun q => q.2.1) (pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) k))
    (fun k => by
      unfold tripL_k0_t2 trip_k0_t2
      exact fills_proj x13 x5 x15 x7 (k0_off10_eq k) _ _ (by rw [read_whole2, read_whole2, read_cols harg5 x5 (k0_off8_eq k), read_cols harg7 x7 (k0_off9_eq k)]; rfl))).mono fun y hy => ⟨⟨(y 2).val / 256, hy⟩, rfl⟩

theorem fills_t2_scratch : Fills (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) k0_t2_loop.trips).2.2.1 {y | 8 ≤ (y 0).val / 32 ∧ (y 0).val / 32 < 16} (codes2 x2 x3) :=
  (Fills.loop (fun n => (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) n).2.2.1) (fun k => (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) k).2.2.1) _ (codes2 x2 x3) rfl
    (fun k => congrArg (fun q => q.2.2.1) (pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) k))
    (fun k => by
      unfold tripL_k0_t2 trip_k0_t2
      exact fills_rows2 (fun n => rowCodes (xRows x2 n) x3) (n := (k.val + 8)) ((k0_off12_eq k).trans (by rw [show 32 * (k.val + 8) = 32 * k.val + 256 by omega])) _ _ (by simp only [trip_k0_t2.sl.r, trip_k0_t2.sl.r_1, trip_k0_t2.sl.r_2]; rw [read_rows harg2 x2 (n := (k.val + 8)) ((k0_off11_eq k).trans (by rw [show 32 * (k.val + 8) = 32 * k.val + 256 by omega])), read_whole2 harg3 x3]; rfl))).mono fun y hy => ⟨⟨(y 0).val / 32 - 8, by have h1 := hy.1; have h2 := hy.2; exact (show (y 0).val / 32 - 8 < 8 by omega)⟩, (show (y 0).val / 32 = (y 0).val / 32 - 8 + 8 by have h1 := hy.1; omega)⟩

theorem fills_t2_scales : Fills (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) k0_t2_loop.trips).2.2.2 {y | 8 ≤ (y 0).val / 32 ∧ (y 0).val / 32 < 16} (scales2 x2 x3) :=
  (Fills.loop (fun n => (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) n).2.2.2) (fun k => (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) k).2.2.2) _ (scales2 x2 x3) rfl
    (fun k => congrArg (fun q => q.2.2.2) (pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg13.unread x13) (harg15.unread x15) k))
    (fun k => by
      unfold tripL_k0_t2 trip_k0_t2
      exact fills_rows2 (fun n => rowScales (xRows x2 n) x3) (n := (k.val + 8)) ((k0_off13_eq k).trans (by rw [show 32 * (k.val + 8) = 32 * k.val + 256 by omega])) _ _ (by simp only [trip_k0_t2.sl.r, trip_k0_t2.sl.r_1, trip_k0_t2.sl.r_2]; rw [read_rows harg2 x2 (n := (k.val + 8)) ((k0_off11_eq k).trans (by rw [show 32 * (k.val + 8) = 32 * k.val + 256 by omega])), read_whole2 harg3 x3]; rfl))).mono fun y hy => ⟨⟨(y 0).val / 32 - 8, by have h1 := hy.1; have h2 := hy.2; exact (show (y 0).val / 32 - 8 < 8 by omega)⟩, (show (y 0).val / 32 = (y 0).val / 32 - 8 + 8 by have h1 := hy.1; omega)⟩

theorem fills_t3_codes (arg0 : BitVec 32) : Fills (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k0_t3_loop.trips).1 {y | 0 ≤ (y 1).val / 32 ∧ (y 1).val / 32 < 16} (codes3 x2 x3) :=
  (Fills.loop (fun n => (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) n).1) (fun k => (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k).1) _ (codes3 x2 x3) rfl
    (fun k => congrArg (fun q => q.1) (pb_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k))
    (fun k => by
      unfold tripL_k0_t3 trip_k0_t3
      exact fills_codes3 x2 x3 (n := k.val) (k0_off15_eq k) _ _ (by simp only [trip_k0_t3.sl.r, trip_k0_t3.sl.r_1]; rw [read_rows harg2 x2 (n := k.val) (k0_off15_eq k), read_whole2 harg3 x3]; rfl))).mono fun y hy => ⟨⟨(y 1).val / 32, hy.2⟩, rfl⟩

theorem fills_t3_scratch (arg0 : BitVec 32) : Fills (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k0_t3_loop.trips).2.1 {y | 0 ≤ (y 0).val / 32 ∧ (y 0).val / 32 < 16} (codes2 x2 x3) :=
  (Fills.loop (fun n => (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) n).2.1) (fun k => (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k).2.1) _ (codes2 x2 x3) rfl
    (fun k => congrArg (fun q => q.2.1) (pb_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k))
    (fun k => by
      unfold tripL_k0_t3 trip_k0_t3
      exact fills_rows2 (fun n => rowCodes (xRows x2 n) x3) (n := k.val) (k0_off16_eq k) _ _ (by simp only [trip_k0_t3.sl.r, trip_k0_t3.sl.r_1]; rw [read_rows harg2 x2 (n := k.val) (k0_off15_eq k), read_whole2 harg3 x3]; rfl))).mono fun y hy => ⟨⟨(y 0).val / 32, hy.2⟩, rfl⟩

theorem fills_t3_scales (arg0 : BitVec 32) : Fills (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k0_t3_loop.trips).2.2 {y | 0 ≤ (y 0).val / 32 ∧ (y 0).val / 32 < 16} (scales2 x2 x3) :=
  (Fills.loop (fun n => (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) n).2.2) (fun k => (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k).2.2) _ (scales2 x2 x3) rfl
    (fun k => congrArg (fun q => q.2.2) (pb_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k))
    (fun k => by
      unfold tripL_k0_t3 trip_k0_t3
      exact fills_rows2 (fun n => rowScales (xRows x2 n) x3) (n := k.val) (k0_off17_eq k) _ _ (by simp only [trip_k0_t3.sl.r, trip_k0_t3.sl.r_1]; rw [read_rows harg2 x2 (n := k.val) (k0_off15_eq k), read_whole2 harg3 x3]; rfl))).mono fun y hy => ⟨⟨(y 0).val / 32, hy.2⟩, rfl⟩

theorem fills_t4_k (arg0 : BitVec 32) (v0 : BitVec 1) (v32 : Elt F .i32) (k0_hw1 : k0_chk1 i v32) (v35 : BitVec 1) (c2_i32 : BitVec 32) (v36 : BitVec 1) (c1_i32_14 : BitVec 32) : Fills (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v0 v32 k0_hw1 v35 c2_i32 v36 c1_i32_14 (harg4.unread x4) (harg6.unread x6) (harg13.unread x13) (harg15.unread x15) k0_t4_loop.trips) {y | (y 2).val / 256 < 8} (proj x13 x4 x15 x6) :=
  (Fills.loop (fun n => (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v0 v32 k0_hw1 v35 c2_i32 v36 c1_i32_14 (harg4.unread x4) (harg6.unread x6) (harg13.unread x13) (harg15.unread x15) n)) (fun k => (tripL_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v0 v32 k0_hw1 v35 c2_i32 v36 c1_i32_14 (harg4.unread x4) (harg6.unread x6) (harg13.unread x13) (harg15.unread x15) k)) _ (proj x13 x4 x15 x6) rfl
    (fun k => (pb_k0_t4_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v0 v32 k0_hw1 v35 c2_i32 v36 c1_i32_14 (harg4.unread x4) (harg6.unread x6) (harg13.unread x13) (harg15.unread x15) k))
    (fun k => by
      unfold tripL_k0_t4 trip_k0_t4
      exact fills_proj x13 x4 x15 x6 (k0_off21_eq k) _ _ (by rw [read_whole2, read_whole2, read_cols harg4 x4 (k0_off19_eq k), read_cols harg6 x6 (k0_off20_eq k)]; rfl))).mono fun y hy => ⟨⟨(y 2).val / 256, hy⟩, rfl⟩

theorem fills_t5_v (arg0 : BitVec 32) (v0 : BitVec 1) (v32 : Elt F .i32) (k0_hw1 : k0_chk1 i v32) (v35 : BitVec 1) (c2_i32 : BitVec 32) (v36 : BitVec 1) (c1_i32_14 : BitVec 32) : Fills (pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v0 v32 k0_hw1 v35 c2_i32 v36 c1_i32_14 (harg5.unread x5) (harg7.unread x7) (harg13.unread x13) (harg15.unread x15) k0_t5_loop.trips) {y | (y 2).val / 256 < 8} (proj x13 x5 x15 x7) :=
  (Fills.loop (fun n => (pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v0 v32 k0_hw1 v35 c2_i32 v36 c1_i32_14 (harg5.unread x5) (harg7.unread x7) (harg13.unread x13) (harg15.unread x15) n)) (fun k => (tripL_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v0 v32 k0_hw1 v35 c2_i32 v36 c1_i32_14 (harg5.unread x5) (harg7.unread x7) (harg13.unread x13) (harg15.unread x15) k)) _ (proj x13 x5 x15 x7) rfl
    (fun k => (pb_k0_t5_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 v0 v32 k0_hw1 v35 c2_i32 v36 c1_i32_14 (harg5.unread x5) (harg7.unread x7) (harg13.unread x13) (harg15.unread x15) k))
    (fun k => by
      unfold tripL_k0_t5 trip_k0_t5
      exact fills_proj x13 x5 x15 x7 (k0_off24_eq k) _ _ (by rw [read_whole2, read_whole2, read_cols harg5 x5 (k0_off22_eq k), read_cols harg7 x7 (k0_off23_eq k)]; rfl))).mono fun y hy => ⟨⟨(y 2).val / 256, hy⟩, rfl⟩

theorem fills_t6_codes : Fills (pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) k0_t6_loop.trips).1 {y | 0 ≤ (y 1).val / 32 ∧ (y 1).val / 32 < 8} (codes3 x2 x3) :=
  (Fills.loop (fun n => (pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) n).1) (fun k => (tripL_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) k).1) _ (codes3 x2 x3) rfl
    (fun k => congrArg (fun q => q.1) (pb_k0_t6_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) k))
    (fun k => by
      unfold tripL_k0_t6 trip_k0_t6
      exact fills_codes3 x2 x3 (n := k.val) (k0_off28_eq k) _ _ (by simp only [trip_k0_t6.sl.r, trip_k0_t6.sl.r_1, trip_k0_t6.sl.r_2]; rw [read_rows harg2 x2 (n := k.val) (k0_off28_eq k), read_whole2 harg3 x3]; rfl))).mono fun y hy => ⟨⟨(y 1).val / 32, hy.2⟩, rfl⟩

theorem fills_t6_k : Fills (pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) k0_t6_loop.trips).2.1 {y | (y 2).val / 256 < 8} (proj x12 x4 x14 x6) :=
  (Fills.loop (fun n => (pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) n).2.1) (fun k => (tripL_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) k).2.1) _ (proj x12 x4 x14 x6) rfl
    (fun k => congrArg (fun q => q.2.1) (pb_k0_t6_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) k))
    (fun k => by
      unfold tripL_k0_t6 trip_k0_t6
      exact fills_proj x12 x4 x14 x6 (k0_off27_eq k) _ _ (by rw [read_whole2, read_whole2, read_cols harg4 x4 (k0_off25_eq k), read_cols harg6 x6 (k0_off26_eq k)]; rfl))).mono fun y hy => ⟨⟨(y 2).val / 256, hy⟩, rfl⟩

theorem fills_t6_scratch : Fills (pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) k0_t6_loop.trips).2.2.1 {y | 0 ≤ (y 0).val / 32 ∧ (y 0).val / 32 < 8} (codes2 x2 x3) :=
  (Fills.loop (fun n => (pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) n).2.2.1) (fun k => (tripL_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) k).2.2.1) _ (codes2 x2 x3) rfl
    (fun k => congrArg (fun q => q.2.2.1) (pb_k0_t6_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) k))
    (fun k => by
      unfold tripL_k0_t6 trip_k0_t6
      exact fills_rows2 (fun n => rowCodes (xRows x2 n) x3) (n := k.val) (k0_off29_eq k) _ _ (by simp only [trip_k0_t6.sl.r, trip_k0_t6.sl.r_1, trip_k0_t6.sl.r_2]; rw [read_rows harg2 x2 (n := k.val) (k0_off28_eq k), read_whole2 harg3 x3]; rfl))).mono fun y hy => ⟨⟨(y 0).val / 32, hy.2⟩, rfl⟩

theorem fills_t6_scales : Fills (pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) k0_t6_loop.trips).2.2.2 {y | 0 ≤ (y 0).val / 32 ∧ (y 0).val / 32 < 8} (scales2 x2 x3) :=
  (Fills.loop (fun n => (pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) n).2.2.2) (fun k => (tripL_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) k).2.2.2) _ (scales2 x2 x3) rfl
    (fun k => congrArg (fun q => q.2.2.2) (pb_k0_t6_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg4.unread x4) (harg6.unread x6) (harg12.unread x12) (harg14.unread x14) k))
    (fun k => by
      unfold tripL_k0_t6 trip_k0_t6
      exact fills_rows2 (fun n => rowScales (xRows x2 n) x3) (n := k.val) (k0_off30_eq k) _ _ (by simp only [trip_k0_t6.sl.r, trip_k0_t6.sl.r_1, trip_k0_t6.sl.r_2]; rw [read_rows harg2 x2 (n := k.val) (k0_off28_eq k), read_whole2 harg3 x3]; rfl))).mono fun y hy => ⟨⟨(y 0).val / 32, hy.2⟩, rfl⟩

theorem fills_t7_codes : Fills (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) k0_t7_loop.trips).1 {y | 8 ≤ (y 1).val / 32 ∧ (y 1).val / 32 < 16} (codes3 x2 x3) :=
  (Fills.loop (fun n => (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) n).1) (fun k => (tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) k).1) _ (codes3 x2 x3) rfl
    (fun k => congrArg (fun q => q.1) (pb_k0_t7_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) k))
    (fun k => by
      unfold tripL_k0_t7 trip_k0_t7
      exact fills_codes3 x2 x3 (n := (k.val + 8)) ((k0_off34_eq k).trans (by rw [show 32 * (k.val + 8) = 32 * k.val + 256 by omega])) _ _ (by simp only [trip_k0_t7.sl.r, trip_k0_t7.sl.r_1, trip_k0_t7.sl.r_2]; rw [read_rows harg2 x2 (n := (k.val + 8)) ((k0_off34_eq k).trans (by rw [show 32 * (k.val + 8) = 32 * k.val + 256 by omega])), read_whole2 harg3 x3]; rfl))).mono fun y hy => ⟨⟨(y 1).val / 32 - 8, by have h1 := hy.1; have h2 := hy.2; exact (show (y 1).val / 32 - 8 < 8 by omega)⟩, (show (y 1).val / 32 = (y 1).val / 32 - 8 + 8 by have h1 := hy.1; omega)⟩

theorem fills_t7_v : Fills (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) k0_t7_loop.trips).2.1 {y | (y 2).val / 256 < 8} (proj x12 x5 x14 x7) :=
  (Fills.loop (fun n => (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) n).2.1) (fun k => (tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) k).2.1) _ (proj x12 x5 x14 x7) rfl
    (fun k => congrArg (fun q => q.2.1) (pb_k0_t7_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) k))
    (fun k => by
      unfold tripL_k0_t7 trip_k0_t7
      exact fills_proj x12 x5 x14 x7 (k0_off33_eq k) _ _ (by rw [read_whole2, read_whole2, read_cols harg5 x5 (k0_off31_eq k), read_cols harg7 x7 (k0_off32_eq k)]; rfl))).mono fun y hy => ⟨⟨(y 2).val / 256, hy⟩, rfl⟩

theorem fills_t7_scratch : Fills (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) k0_t7_loop.trips).2.2.1 {y | 8 ≤ (y 0).val / 32 ∧ (y 0).val / 32 < 16} (codes2 x2 x3) :=
  (Fills.loop (fun n => (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) n).2.2.1) (fun k => (tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) k).2.2.1) _ (codes2 x2 x3) rfl
    (fun k => congrArg (fun q => q.2.2.1) (pb_k0_t7_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) k))
    (fun k => by
      unfold tripL_k0_t7 trip_k0_t7
      exact fills_rows2 (fun n => rowCodes (xRows x2 n) x3) (n := (k.val + 8)) ((k0_off35_eq k).trans (by rw [show 32 * (k.val + 8) = 32 * k.val + 256 by omega])) _ _ (by simp only [trip_k0_t7.sl.r, trip_k0_t7.sl.r_1, trip_k0_t7.sl.r_2]; rw [read_rows harg2 x2 (n := (k.val + 8)) ((k0_off34_eq k).trans (by rw [show 32 * (k.val + 8) = 32 * k.val + 256 by omega])), read_whole2 harg3 x3]; rfl))).mono fun y hy => ⟨⟨(y 0).val / 32 - 8, by have h1 := hy.1; have h2 := hy.2; exact (show (y 0).val / 32 - 8 < 8 by omega)⟩, (show (y 0).val / 32 = (y 0).val / 32 - 8 + 8 by have h1 := hy.1; omega)⟩

theorem fills_t7_scales : Fills (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) k0_t7_loop.trips).2.2.2 {y | 8 ≤ (y 0).val / 32 ∧ (y 0).val / 32 < 16} (scales2 x2 x3) :=
  (Fills.loop (fun n => (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) n).2.2.2) (fun k => (tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) k).2.2.2) _ (scales2 x2 x3) rfl
    (fun k => congrArg (fun q => q.2.2.2) (pb_k0_t7_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg2.unread x2) (harg3.unread x3) (harg5.unread x5) (harg7.unread x7) (harg12.unread x12) (harg14.unread x14) k))
    (fun k => by
      unfold tripL_k0_t7 trip_k0_t7
      exact fills_rows2 (fun n => rowScales (xRows x2 n) x3) (n := (k.val + 8)) ((k0_off36_eq k).trans (by rw [show 32 * (k.val + 8) = 32 * k.val + 256 by omega])) _ _ (by simp only [trip_k0_t7.sl.r, trip_k0_t7.sl.r_1, trip_k0_t7.sl.r_2]; rw [read_rows harg2 x2 (n := (k.val + 8)) ((k0_off34_eq k).trans (by rw [show 32 * (k.val + 8) = 32 * k.val + 256 by omega])), read_whole2 harg3 x3]; rfl))).mono fun y hy => ⟨⟨(y 0).val / 32 - 8, by have h1 := hy.1; have h2 := hy.2; exact (show (y 0).val / 32 - 8 < 8 by omega)⟩, (show (y 0).val / 32 = (y 0).val / 32 - 8 + 8 by have h1 := hy.1; omega)⟩

theorem fills_t8_codes (arg0 : BitVec 32) : Fills (pb_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k0_t8_loop.trips).1 {y | 0 ≤ (y 1).val / 32 ∧ (y 1).val / 32 < 16} (codes3 x2 x3) :=
  (Fills.loop (fun n => (pb_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) n).1) (fun k => (tripL_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k).1) _ (codes3 x2 x3) rfl
    (fun k => congrArg (fun q => q.1) (pb_k0_t8_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k))
    (fun k => by
      unfold tripL_k0_t8 trip_k0_t8
      exact fills_codes3 x2 x3 (n := k.val) (k0_off38_eq k) _ _ (by simp only [trip_k0_t8.sl.r, trip_k0_t8.sl.r_1]; rw [read_rows harg2 x2 (n := k.val) (k0_off38_eq k), read_whole2 harg3 x3]; rfl))).mono fun y hy => ⟨⟨(y 1).val / 32, hy.2⟩, rfl⟩

theorem fills_t8_scratch (arg0 : BitVec 32) : Fills (pb_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k0_t8_loop.trips).2.1 {y | 0 ≤ (y 0).val / 32 ∧ (y 0).val / 32 < 16} (codes2 x2 x3) :=
  (Fills.loop (fun n => (pb_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) n).2.1) (fun k => (tripL_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k).2.1) _ (codes2 x2 x3) rfl
    (fun k => congrArg (fun q => q.2.1) (pb_k0_t8_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k))
    (fun k => by
      unfold tripL_k0_t8 trip_k0_t8
      exact fills_rows2 (fun n => rowCodes (xRows x2 n) x3) (n := k.val) (k0_off39_eq k) _ _ (by simp only [trip_k0_t8.sl.r, trip_k0_t8.sl.r_1]; rw [read_rows harg2 x2 (n := k.val) (k0_off38_eq k), read_whole2 harg3 x3]; rfl))).mono fun y hy => ⟨⟨(y 0).val / 32, hy.2⟩, rfl⟩

theorem fills_t8_scales (arg0 : BitVec 32) : Fills (pb_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k0_t8_loop.trips).2.2 {y | 0 ≤ (y 0).val / 32 ∧ (y 0).val / 32 < 16} (scales2 x2 x3) :=
  (Fills.loop (fun n => (pb_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) n).2.2) (fun k => (tripL_k0_t8 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k).2.2) _ (scales2 x2 x3) rfl
    (fun k => congrArg (fun q => q.2.2) (pb_k0_t8_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg0 (harg2.unread x2) (harg3.unread x3) k))
    (fun k => by
      unfold tripL_k0_t8 trip_k0_t8
      exact fills_rows2 (fun n => rowScales (xRows x2 n) x3) (n := k.val) (k0_off40_eq k) _ _ (by simp only [trip_k0_t8.sl.r, trip_k0_t8.sl.r_1]; rw [read_rows harg2 x2 (n := k.val) (k0_off38_eq k), read_whole2 harg3 x3]; rfl))).mono fun y hy => ⟨⟨(y 0).val / 32, hy.2⟩, rfl⟩

theorem fills_t9_k : Fills (pb_k0_t9 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg4.unread x4) (harg6.unread x6) (harg12.unread x12) (harg14.unread x14) k0_t9_loop.trips) {y | (y 2).val / 256 < 8} (proj x12 x4 x14 x6) :=
  (Fills.loop (fun n => (pb_k0_t9 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg4.unread x4) (harg6.unread x6) (harg12.unread x12) (harg14.unread x14) n)) (fun k => (tripL_k0_t9 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg4.unread x4) (harg6.unread x6) (harg12.unread x12) (harg14.unread x14) k)) _ (proj x12 x4 x14 x6) rfl
    (fun k => (pb_k0_t9_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg4.unread x4) (harg6.unread x6) (harg12.unread x12) (harg14.unread x14) k))
    (fun k => by
      unfold tripL_k0_t9 trip_k0_t9
      exact fills_proj x12 x4 x14 x6 (k0_off44_eq k) _ _ (by rw [read_whole2, read_whole2, read_cols harg4 x4 (k0_off42_eq k), read_cols harg6 x6 (k0_off43_eq k)]; rfl))).mono fun y hy => ⟨⟨(y 2).val / 256, hy⟩, rfl⟩

theorem fills_t10_v : Fills (pb_k0_t10 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg5.unread x5) (harg7.unread x7) (harg12.unread x12) (harg14.unread x14) k0_t10_loop.trips) {y | (y 2).val / 256 < 8} (proj x12 x5 x14 x7) :=
  (Fills.loop (fun n => (pb_k0_t10 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg5.unread x5) (harg7.unread x7) (harg12.unread x12) (harg14.unread x14) n)) (fun k => (tripL_k0_t10 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg5.unread x5) (harg7.unread x7) (harg12.unread x12) (harg14.unread x14) k)) _ (proj x12 x5 x14 x7) rfl
    (fun k => (pb_k0_t10_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 (harg5.unread x5) (harg7.unread x7) (harg12.unread x12) (harg14.unread x14) k))
    (fun k => by
      unfold tripL_k0_t10 trip_k0_t10
      exact fills_proj x12 x5 x14 x7 (k0_off47_eq k) _ _ (by rw [read_whole2, read_whole2, read_cols harg5 x5 (k0_off45_eq k), read_cols harg7 x7 (k0_off46_eq k)]; rfl))).mono fun y hy => ⟨⟨(y 2).val / 256, hy⟩, rfl⟩

end Cert.KernelIdeal.Tile

end
-- ==== Proof.Kit.lean ====
/-
  What the runs of the kernel's body share: the table held at half the share, the word the body reads from it, and
  the facts by which stored pieces cover a tile.
-/
module

public import proofs.«01_k».proof.Proof.LoopVals
public import Idealize.ShloMosaic.Lib.Pipeline.FrameBody
public import Idealize.ShloMosaic.Lib.Tactic

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table's buffer on core `c`, and that buffer held at half the full share (the pipeline keeps the other half). -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The word the body reads from the table at a point. -/
abbrev wordAt (c : Dev nD) (M : Memref sig .tc .smem S4 .i32) (f : TbBuf (F := F) c M) (i : grid0.Coords) : BitVec 32 :=
  View.readAt (Elt F) M.view (Rect.unit (s := S4) (k0_off1 i) S1.size (k0_off1_inb i)).toLoadRect f (Shape.Idx.first (numel1_S1.symm ▸ Nat.one_pos))

theorem cover3_halves (y : S1x512x2048.Idx) : y ∈ ({y | 8 ≤ (y 1).val / 32 ∧ (y 1).val / 32 < 16} ∪ {y | 0 ≤ (y 1).val / 32 ∧ (y 1).val / 32 < 8} : Set S1x512x2048.Idx) := by
  have h : (y 1).val < 512 := (y 1).isLt
  show (8 ≤ (y 1).val / 32 ∧ (y 1).val / 32 < 16) ∨ (0 ≤ (y 1).val / 32 ∧ (y 1).val / 32 < 8)
  omega
theorem cover3_whole (y : S1x512x2048.Idx) : y ∈ ({y | 0 ≤ (y 1).val / 32 ∧ (y 1).val / 32 < 16} : Set S1x512x2048.Idx) := by
  have h : (y 1).val < 512 := (y 1).isLt
  show 0 ≤ (y 1).val / 32 ∧ (y 1).val / 32 < 16
  omega
theorem cover2_halves {n : ℕ} (y : (⟨2, ![512, n]⟩ : Shape).Idx) : y ∈ ({y | 8 ≤ (y 0).val / 32 ∧ (y 0).val / 32 < 16} ∪ {y | 0 ≤ (y 0).val / 32 ∧ (y 0).val / 32 < 8} : Set (⟨2, ![512, n]⟩ : Shape).Idx) := by
  have h : (y 0).val < 512 := (y 0).isLt
  show (8 ≤ (y 0).val / 32 ∧ (y 0).val / 32 < 16) ∨ (0 ≤ (y 0).val / 32 ∧ (y 0).val / 32 < 8)
  omega
theorem cover2_whole {n : ℕ} (y : (⟨2, ![512, n]⟩ : Shape).Idx) : y ∈ ({y | 0 ≤ (y 0).val / 32 ∧ (y 0).val / 32 < 16} : Set (⟨2, ![512, n]⟩ : Shape).Idx) := by
  have h : (y 0).val < 512 := (y 0).isLt
  show 0 ≤ (y 0).val / 32 ∧ (y 0).val / 32 < 16
  omega
theorem cover_cols (y : S1x512x2048.Idx) : y ∈ ({y | (y 2).val / 256 < 8} : Set S1x512x2048.Idx) := by
  have h : (y 2).val < 2048 := (y 2).isLt
  show (y 2).val / 256 < 8
  omega

theorem pay35_eq (v : Vec F S512x1 .f32) : k0_pay35 v = k0_pay23 v := rfl
theorem pay56_eq (v : Vec F S512x1 .f32) : k0_pay56 v = k0_pay23 v := rfl
theorem pay68_eq (v : Vec F S512x1 .f32) : k0_pay68 v = k0_pay23 v := rfl

end Cert.KernelIdeal.Tile

end
-- ==== Proof.RunBoth0.lean ====
/-
  An even point that quantises a tile and projects the one before.
-/
module

public import proofs.«01_k».proof.Proof.Kit

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: it runs to the continuation holding the memrefs at the tile's functions. -/
theorem runBoth0 (c : Dev nD) (t : Fin grid0.N) (arg1 : Memref sig .tc .smem S4 .i32) (harg1 : arg1.IsWhole) (arg2 : Memref sig .tc .vmem S1x512x2048 .bf16) (harg2 : arg2.IsWhole) (arg3 : Memref sig .tc .vmem S1x2048 .f32) (harg3 : arg3.IsWhole) (arg4 : Memref sig .tc .vmem S2048x2048 .fp8e4m3) (harg4 : arg4.IsWhole) (arg5 : Memref sig .tc .vmem S2048x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512x2048 .fp8e4m3) (harg8 : arg8.IsWhole) (arg9 : Memref sig .tc .vmem S4x8192 .f32) (harg9 : arg9.IsWhole) (arg10 : Memref sig .tc .vmem S1x512x2048 .bf16) (harg10 : arg10.IsWhole) (arg11 : Memref sig .tc .vmem S1x512x2048 .bf16) (harg11 : arg11.IsWhole) (arg12 : Memref sig .tc .vmem S512x2048 .fp8e4m3) (harg12 : arg12.IsWhole) (arg13 : Memref sig .tc .vmem S512x2048 .fp8e4m3) (harg13 : arg13.IsWhole) (arg14 : Memref sig .tc .vmem S512x128 .f32) (harg14 : arg14.IsWhole) (arg15 : Memref sig .tc .vmem S512x128 .f32) (harg15 : arg15.IsWhole)
    (xt : TbBuf (F := F) c arg1) (x2 : Vec F S1x512x2048 .bf16) (x3 : Vec F S1x2048 .f32) (x4 : Vec F S2048x2048 .fp8e4m3) (x5 : Vec F S2048x2048 .fp8e4m3) (x6 : Vec F S1x2048 .f32) (x7 : Vec F S1x2048 .f32) (x8 : Vec F S1x512x2048 .fp8e4m3) (x9 : Vec F S4x8192 .f32) (x10 : Vec F S1x512x2048 .bf16) (x11 : Vec F S1x512x2048 .bf16) (x12 : Vec F S512x2048 .fp8e4m3) (x13 : Vec F S512x2048 .fp8e4m3) (x14 : Vec F S512x128 .f32) (x15 : Vec F S512x128 .f32) (hpar : t.val % 2 = 0) (hq : t.val < 64) (hp0 : hp (grid0.coords t) (wordAt c arg1 xt (grid0.coords t)) = 1#1) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ tbPt c arg1 xt
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (codes3 x2 x3) ∗ owns (c : Thread nD τ) arg9 fullShare (scalesU t.val (lanes (scales2 x2 x3)) x9) ∗ owns (c : Thread nD τ) arg10 fullShare (proj x13 x4 x15 x6) ∗ owns (c : Thread nD τ) arg11 fullShare (proj x13 x5 x15 x7) ∗ owns (c : Thread nD τ) arg12 fullShare (codes2 x2 x3) ∗ owns (c : Thread nD τ) arg13 fullShare x13 ∗ owns (c : Thread nD τ) arg14 fullShare (scales2 x2 x3) ∗ owns (c : Thread nD τ) arg15 fullShare x15 ∗ tbPt c arg1 xt) -∗ K ⟨⟩))
        ⊢ wp frame (wpE (defs₀ (F := F)) Variants.none c none) E (cc0_bytes (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  have h1 := (cond1_iff t (wordAt c arg1 xt (grid0.coords t))).2 ⟨hpar, hq, hp0⟩
  have h2 : ¬ k0_cond2 (grid0.coords t) (wordAt c arg1 xt (grid0.coords t)) = 1#1 := fun h0 => have h := (cond2_iff t _).1 h0; h.2.2 hp0
  have h3 : ¬ k0_cond3 (grid0.coords t) (wordAt c arg1 xt (grid0.coords t)) = 1#1 := fun h0 => have h := (cond3_iff t _).1 h0; h.2.1 hq
  have h4 : ¬ k0_cond4 (grid0.coords t) (wordAt c arg1 xt (grid0.coords t)) = 1#1 := fun h0 => have h := (cond4_iff t _).1 h0; by have := h.1; omega
  have h5 : ¬ k0_cond5 (grid0.coords t) (wordAt c arg1 xt (grid0.coords t)) = 1#1 := fun h0 => have h := (cond5_iff t _).1 h0; by have := h.1; omega
  have h6 : ¬ k0_cond6 (grid0.coords t) (wordAt c arg1 xt (grid0.coords t)) = 1#1 := fun h0 => have h := (cond6_iff t _).1 h0; by have := h.1; omega
  simp only [cc0_bytes_eq_skeleton]; unfold cc0_bytes_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, HT, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec (disch := first | exact chk1 t _ | exact h1 | exact h2 | exact h3 | exact h4 | exact h5 | exact h6)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact (fills_t2_codes.append fills_t1_codes).read _ _ cover3_halves
  isplitl [H9]
  · iexists _; isplitr; swap; · iexact H9
    ipureintro; exact read_scales harg9 x9 (off14_at t) _ _ _ (congrArg k0_pay23 (read_col0 _ ((fills_t2_scales.append fills_t1_scales).read _ _ cover2_halves) _))
  isplitl [H10]
  · iexists _; isplitr; swap; · iexact H10
    ipureintro; exact fills_t1_k.read _ _ cover_cols
  isplitl [H11]
  · iexists _; isplitr; swap; · iexact H11
    ipureintro; exact fills_t2_v.read _ _ cover_cols
  isplitl [H12]
  · iexists _; isplitr; swap; · iexact H12
    ipureintro; exact (fills_t2_scratch.append fills_t1_scratch).read _ _ cover2_halves
  isplitl [H13]
  · iexists _; isplitr; swap; · iexact H13
    ipureintro; exact harg13.read_unread _
  isplitl [H14]
  · iexists _; isplitr; swap; · iexact H14
    ipureintro; exact (fills_t2_scales.append fills_t1_scales).read _ _ cover2_halves
  isplitl [H15]
  · iexists _; isplitr; swap; · iexact H15
    ipureintro; exact harg15.read_unread _
  iexact HT

end Cert.KernelIdeal.Tile

end
-- ==== Proof.RunQuant0.lean ====
/-
  An even point that quantises a tile and projects nothing.
-/
module

public import proofs.«01_k».proof.Proof.Kit

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: it runs to the continuation holding the memrefs at the tile's functions. -/
theorem runQuant0 (c : Dev nD) (t : Fin grid0.N) (arg1 : Memref sig .tc .smem S4 .i32) (harg1 : arg1.IsWhole) (arg2 : Memref sig .tc .vmem S1x512x2048 .bf16) (harg2 : arg2.IsWhole) (arg3 : Memref sig .tc .vmem S1x2048 .f32) (harg3 : arg3.IsWhole) (arg4 : Memref sig .tc .vmem S2048x2048 .fp8e4m3) (harg4 : arg4.IsWhole) (arg5 : Memref sig .tc .vmem S2048x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512x2048 .fp8e4m3) (harg8 : arg8.IsWhole) (arg9 : Memref sig .tc .vmem S4x8192 .f32) (harg9 : arg9.IsWhole) (arg10 : Memref sig .tc .vmem S1x512x2048 .bf16) (harg10 : arg10.IsWhole) (arg11 : Memref sig .tc .vmem S1x512x2048 .bf16) (harg11 : arg11.IsWhole) (arg12 : Memref sig .tc .vmem S512x2048 .fp8e4m3) (harg12 : arg12.IsWhole) (arg13 : Memref sig .tc .vmem S512x2048 .fp8e4m3) (harg13 : arg13.IsWhole) (arg14 : Memref sig .tc .vmem S512x128 .f32) (harg14 : arg14.IsWhole) (arg15 : Memref sig .tc .vmem S512x128 .f32) (harg15 : arg15.IsWhole)
    (xt : TbBuf (F := F) c arg1) (x2 : Vec F S1x512x2048 .bf16) (x3 : Vec F S1x2048 .f32) (x4 : Vec F S2048x2048 .fp8e4m3) (x5 : Vec F S2048x2048 .fp8e4m3) (x6 : Vec F S1x2048 .f32) (x7 : Vec F S1x2048 .f32) (x8 : Vec F S1x512x2048 .fp8e4m3) (x9 : Vec F S4x8192 .f32) (x10 : Vec F S1x512x2048 .bf16) (x11 : Vec F S1x512x2048 .bf16) (x12 : Vec F S512x2048 .fp8e4m3) (x13 : Vec F S512x2048 .fp8e4m3) (x14 : Vec F S512x128 .f32) (x15 : Vec F S512x128 .f32) (hpar : t.val % 2 = 0) (hq : t.val < 64) (hp0 : ¬ hp (grid0.coords t) (wordAt c arg1 xt (grid0.coords t)) = 1#1) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ tbPt c arg1 xt
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (codes3 x2 x3) ∗ owns (c : Thread nD τ) arg9 fullShare (scalesU t.val (lanes (scales2 x2 x3)) x9) ∗ owns (c : Thread nD τ) arg10 fullShare x10 ∗ owns (c : Thread nD τ) arg11 fullShare x11 ∗ owns (c : Thread nD τ) arg12 fullShare (codes2 x2 x3) ∗ owns (c : Thread nD τ) arg13 fullShare x13 ∗ owns (c : Thread nD τ) arg14 fullShare (scales2 x2 x3) ∗ owns (c : Thread nD τ) arg15 fullShare x15 ∗ tbPt c arg1 xt) -∗ K ⟨⟩))
        ⊢ wp frame (wpE (defs₀ (F := F)) Variants.none c none) E (cc0_bytes (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  have h1 : ¬ k0_cond1 (grid0.coords t) (wordAt c arg1 xt (grid0.coords t)) = 1#1 := fun h0 => have h := (cond1_iff t _).1 h0; hp0 h.2.2
  have h2 := (cond2_iff t (wordAt c arg1 xt (grid0.coords t))).2 ⟨hpar, hq, hp0⟩
  have h3 : ¬ k0_cond3 (grid0.coords t) (wordAt c arg1 xt (grid0.coords t)) = 1#1 := fun h0 => have h := (cond3_iff t _).1 h0; h.2.1 hq
  have h4 : ¬ k0_cond4 (grid0.coords t) (wordAt c arg1 xt (grid0.coords t)) = 1#1 := fun h0 => have h := (cond4_iff t _).1 h0; by have := h.1; omega
  have h5 : ¬ k0_cond5 (grid0.coords t) (wordAt c arg1 xt (grid0.coords t)) = 1#1 := fun h0 => have h := (cond5_iff t _).1 h0; by have := h.1; omega
  have h6 : ¬ k0_cond6 (grid0.coords t) (wordAt c arg1 xt (grid0.coords t)) = 1#1 := fun h0 => have h := (cond6_iff t _).1 h0; by have := h.1; omega
  simp only [cc0_bytes_eq_skeleton]; unfold cc0_bytes_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, HT, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec (disch := first | exact chk1 t _ | exact h1 | exact h2 | exact h3 | exact h4 | exact h5 | exact h6)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact (fills_t3_codes _).read _ _ cover3_whole
  isplitl [H9]
  · iexists _; isplitr; swap; · iexact H9
    ipureintro; exact read_scales harg9 x9 (off18_at t) _ _ _ (congrArg k0_pay35 (read_col0 _ ((fills_t3_scales _).read _ _ cover2_whole) _))
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact (fills_t3_scratch _).read _ _ cover2_whole
  isplitl [H13]
  · iexists _; isplitr; swap; · iexact H13
    ipureintro; exact harg13.read_unread _
  isplitl [H14]
  · iexists _; isplitr; swap; · iexact H14
    ipureintro; exact (fills_t3_scales _).read _ _ cover2_whole
  isplitl [H15]
  · iexists _; isplitr; swap; · iexact H15
    ipureintro; exact harg15.read_unread _
  iexact HT

end Cert.KernelIdeal.Tile

end
-- ==== Proof.RunProj0.lean ====
/-
  An even point that projects a tile and quantises nothing.
-/
module

public import proofs.«01_k».proof.Proof.Kit

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: it runs to the continuation holding the memrefs at the tile's functions. -/
theorem runProj0 (c : Dev nD) (t : Fin grid0.N) (arg1 : Memref sig .tc .smem S4 .i32) (harg1 : arg1.IsWhole) (arg2 : Memref sig .tc .vmem S1x512x2048 .bf16) (harg2 : arg2.IsWhole) (arg3 : Memref sig .tc .vmem S1x2048 .f32) (harg3 : arg3.IsWhole) (arg4 : Memref sig .tc .vmem S2048x2048 .fp8e4m3) (harg4 : arg4.IsWhole) (arg5 : Memref sig .tc .vmem S2048x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512x2048 .fp8e4m3) (harg8 : arg8.IsWhole) (arg9 : Memref sig .tc .vmem S4x8192 .f32) (harg9 : arg9.IsWhole) (arg10 : Memref sig .tc .vmem S1x512x2048 .bf16) (harg10 : arg10.IsWhole) (arg11 : Memref sig .tc .vmem S1x512x2048 .bf16) (harg11 : arg11.IsWhole) (arg12 : Memref sig .tc .vmem S512x2048 .fp8e4m3) (harg12 : arg12.IsWhole) (arg13 : Memref sig .tc .vmem S512x2048 .fp8e4m3) (harg13 : arg13.IsWhole) (arg14 : Memref sig .tc .vmem S512x128 .f32) (harg14 : arg14.IsWhole) (arg15 : Memref sig .tc .vmem S512x128 .f32) (harg15 : arg15.IsWhole)
    (xt : TbBuf (F := F) c arg1) (x2 : Vec F S1x512x2048 .bf16) (x3 : Vec F S1x2048 .f32) (x4 : Vec F S2048x2048 .fp8e4m3) (x5 : Vec F S2048x2048 .fp8e4m3) (x6 : Vec F S1x2048 .f32) (x7 : Vec F S1x2048 .f32) (x8 : Vec F S1x512x2048 .fp8e4m3) (x9 : Vec F S4x8192 .f32) (x10 : Vec F S1x512x2048 .bf16) (x11 : Vec F S1x512x2048 .bf16) (x12 : Vec F S512x2048 .fp8e4m3) (x13 : Vec F S512x2048 .fp8e4m3) (x14 : Vec F S512x128 .f32) (x15 : Vec F S512x128 .f32) (hpar : t.val % 2 = 0) (hq : ¬ t.val < 64) (hp0 : hp (grid0.coords t) (wordAt c arg1 xt (grid0.coords t)) = 1#1) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ tbPt c arg1 xt
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (proj x13 x4 x15 x6) ∗ owns (c : Thread nD τ) arg11 fullShare (proj x13 x5 x15 x7) ∗ owns (c : Thread nD τ) arg12 fullShare x12 ∗ owns (c : Thread nD τ) arg13 fullShare x13 ∗ owns (c : Thread nD τ) arg14 fullShare x14 ∗ owns (c : Thread nD τ) arg15 fullShare x15 ∗ tbPt c arg1 xt) -∗ K ⟨⟩))
        ⊢ wp frame (wpE (defs₀ (F := F)) Variants.none c none) E (cc0_bytes (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  have h1 : ¬ k0_cond1 (grid0.coords t) (wordAt c arg1 xt (grid0.coords t)) = 1#1 := fun h0 => have h := (cond1_iff t _).1 h0; hq h.2.1
  have h2 : ¬ k0_cond2 (grid0.coords t) (wordAt c arg1 xt (grid0.coords t)) = 1#1 := fun h0 => have h := (cond2_iff t _).1 h0; hq h.2.1
  have h3 := (cond3_iff t (wordAt c arg1 xt (grid0.coords t))).2 ⟨hpar, hq, hp0⟩
  have h4 : ¬ k0_cond4 (grid0.coords t) (wordAt c arg1 xt (grid0.coords t)) = 1#1 := fun h0 => have h := (cond4_iff t _).1 h0; by have := h.1; omega
  have h5 : ¬ k0_cond5 (grid0.coords t) (wordAt c arg1 xt (grid0.coords t)) = 1#1 := fun h0 => have h := (cond5_iff t _).1 h0; by have := h.1; omega
  have h6 : ¬ k0_cond6 (grid0.coords t) (wordAt c arg1 xt (grid0.coords t)) = 1#1 := fun h0 => have h := (cond6_iff t _).1 h0; by have := h.1; omega
  simp only [cc0_bytes_eq_skeleton]; unfold cc0_bytes_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, HT, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec (disch := first | exact chk1 t _ | exact h1 | exact h2 | exact h3 | exact h4 | exact h5 | exact h6)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact (fills_t4_k _ _ _ _ _ _ _ _).read _ _ cover_cols
  isplitl [H11]
  · iexists _; isplitr; swap; · iexact H11
    ipureintro; exact (fills_t5_v _ _ _ _ _ _ _ _).read _ _ cover_cols
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  iexact HT

end Cert.KernelIdeal.Tile

end
-- ==== Proof.RunBoth1.lean ====
/-
  An odd point that quantises a tile and projects the one before.
-/
module

public import proofs.«01_k».proof.Proof.Kit

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: it runs to the continuation holding the memrefs at the tile's functions. -/
theorem runBoth1 (c : Dev nD) (t : Fin grid0.N) (arg1 : Memref sig .tc .smem S4 .i32) (harg1 : arg1.IsWhole) (arg2 : Memref sig .tc .vmem S1x512x2048 .bf16) (harg2 : arg2.IsWhole) (arg3 : Memref sig .tc .vmem S1x2048 .f32) (harg3 : arg3.IsWhole) (arg4 : Memref sig .tc .vmem S2048x2048 .fp8e4m3) (harg4 : arg4.IsWhole) (arg5 : Memref sig .tc .vmem S2048x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512x2048 .fp8e4m3) (harg8 : arg8.IsWhole) (arg9 : Memref sig .tc .vmem S4x8192 .f32) (harg9 : arg9.IsWhole) (arg10 : Memref sig .tc .vmem S1x512x2048 .bf16) (harg10 : arg10.IsWhole) (arg11 : Memref sig .tc .vmem S1x512x2048 .bf16) (harg11 : arg11.IsWhole) (arg12 : Memref sig .tc .vmem S512x2048 .fp8e4m3) (harg12 : arg12.IsWhole) (arg13 : Memref sig .tc .vmem S512x2048 .fp8e4m3) (harg13 : arg13.IsWhole) (arg14 : Memref sig .tc .vmem S512x128 .f32) (harg14 : arg14.IsWhole) (arg15 : Memref sig .tc .vmem S512x128 .f32) (harg15 : arg15.IsWhole)
    (xt : TbBuf (F := F) c arg1) (x2 : Vec F S1x512x2048 .bf16) (x3 : Vec F S1x2048 .f32) (x4 : Vec F S2048x2048 .fp8e4m3) (x5 : Vec F S2048x2048 .fp8e4m3) (x6 : Vec F S1x2048 .f32) (x7 : Vec F S1x2048 .f32) (x8 : Vec F S1x512x2048 .fp8e4m3) (x9 : Vec F S4x8192 .f32) (x10 : Vec F S1x512x2048 .bf16) (x11 : Vec F S1x512x2048 .bf16) (x12 : Vec F S512x2048 .fp8e4m3) (x13 : Vec F S512x2048 .fp8e4m3) (x14 : Vec F S512x128 .f32) (x15 : Vec F S512x128 .f32) (hpar : t.val % 2 = 1) (hq : t.val < 64) (hp0 : hp (grid0.coords t) (wordAt c arg1 xt (grid0.coords t)) = 1#1) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ tbPt c arg1 xt
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (codes3 x2 x3) ∗ owns (c : Thread nD τ) arg9 fullShare (scalesU t.val (lanes (scales2 x2 x3)) x9) ∗ owns (c : Thread nD τ) arg10 fullShare (proj x12 x4 x14 x6) ∗ owns (c : Thread nD τ) arg11 fullShare (proj x12 x5 x14 x7) ∗ owns (c : Thread nD τ) arg12 fullShare x12 ∗ owns (c : Thread nD τ) arg13 fullShare (codes2 x2 x3) ∗ owns (c : Thread nD τ) arg14 fullShare x14 ∗ owns (c : Thread nD τ) arg15 fullShare (scales2 x2 x3) ∗ tbPt c arg1 xt) -∗ K ⟨⟩))
        ⊢ wp frame (wpE (defs₀ (F := F)) Variants.none c none) E (cc0_bytes (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  have h1 : ¬ k0_cond1 (grid0.coords t) (wordAt c arg1 xt (grid0.coords t)) = 1#1 := fun h0 => have h := (cond1_iff t _).1 h0; by have := h.1; omega
  have h2 : ¬ k0_cond2 (grid0.coords t) (wordAt c arg1 xt (grid0.coords t)) = 1#1 := fun h0 => have h := (cond2_iff t _).1 h0; by have := h.1; omega
  have h3 : ¬ k0_cond3 (grid0.coords t) (wordAt c arg1 xt (grid0.coords t)) = 1#1 := fun h0 => have h := (cond3_iff t _).1 h0; by have := h.1; omega
  have h4 := (cond4_iff t (wordAt c arg1 xt (grid0.coords t))).2 ⟨hpar, hq, hp0⟩
  have h5 : ¬ k0_cond5 (grid0.coords t) (wordAt c arg1 xt (grid0.coords t)) = 1#1 := fun h0 => have h := (cond5_iff t _).1 h0; h.2.2 hp0
  have h6 : ¬ k0_cond6 (grid0.coords t) (wordAt c arg1 xt (grid0.coords t)) = 1#1 := fun h0 => have h := (cond6_iff t _).1 h0; h.2.1 hq
  simp only [cc0_bytes_eq_skeleton]; unfold cc0_bytes_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, HT, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec (disch := first | exact chk1 t _ | exact h1 | exact h2 | exact h3 | exact h4 | exact h5 | exact h6)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact (fills_t7_codes.append fills_t6_codes).read _ _ cover3_halves
  isplitl [H9]
  · iexists _; isplitr; swap; · iexact H9
    ipureintro; exact read_scales harg9 x9 (off37_at t) _ _ _ (congrArg k0_pay56 (read_col0 _ ((fills_t7_scales.append fills_t6_scales).read _ _ cover2_halves) _))
  isplitl [H10]
  · iexists _; isplitr; swap; · iexact H10
    ipureintro; exact fills_t6_k.read _ _ cover_cols
  isplitl [H11]
  · iexists _; isplitr; swap; · iexact H11
    ipureintro; exact fills_t7_v.read _ _ cover_cols
  isplitl [H12]
  · iexists _; isplitr; swap; · iexact H12
    ipureintro; exact harg12.read_unread _
  isplitl [H13]
  · iexists _; isplitr; swap; · iexact H13
    ipureintro; exact (fills_t7_scratch.append fills_t6_scratch).read _ _ cover2_halves
  isplitl [H14]
  · iexists _; isplitr; swap; · iexact H14
    ipureintro; exact harg14.read_unread _
  isplitl [H15]
  · iexists _; isplitr; swap; · iexact H15
    ipureintro; exact (fills_t7_scales.append fills_t6_scales).read _ _ cover2_halves
  iexact HT

end Cert.KernelIdeal.Tile

end
-- ==== Proof.RunQuant1.lean ====
/-
  An odd point that quantises a tile and projects nothing.
-/
module

public import proofs.«01_k».proof.Proof.Kit

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: it runs to the continuation holding the memrefs at the tile's functions. -/
theorem runQuant1 (c : Dev nD) (t : Fin grid0.N) (arg1 : Memref sig .tc .smem S4 .i32) (harg1 : arg1.IsWhole) (arg2 : Memref sig .tc .vmem S1x512x2048 .bf16) (harg2 : arg2.IsWhole) (arg3 : Memref sig .tc .vmem S1x2048 .f32) (harg3 : arg3.IsWhole) (arg4 : Memref sig .tc .vmem S2048x2048 .fp8e4m3) (harg4 : arg4.IsWhole) (arg5 : Memref sig .tc .vmem S2048x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512x2048 .fp8e4m3) (harg8 : arg8.IsWhole) (arg9 : Memref sig .tc .vmem S4x8192 .f32) (harg9 : arg9.IsWhole) (arg10 : Memref sig .tc .vmem S1x512x2048 .bf16) (harg10 : arg10.IsWhole) (arg11 : Memref sig .tc .vmem S1x512x2048 .bf16) (harg11 : arg11.IsWhole) (arg12 : Memref sig .tc .vmem S512x2048 .fp8e4m3) (harg12 : arg12.IsWhole) (arg13 : Memref sig .tc .vmem S512x2048 .fp8e4m3) (harg13 : arg13.IsWhole) (arg14 : Memref sig .tc .vmem S512x128 .f32) (harg14 : arg14.IsWhole) (arg15 : Memref sig .tc .vmem S512x128 .f32) (harg15 : arg15.IsWhole)
    (xt : TbBuf (F := F) c arg1) (x2 : Vec F S1x512x2048 .bf16) (x3 : Vec F S1x2048 .f32) (x4 : Vec F S2048x2048 .fp8e4m3) (x5 : Vec F S2048x2048 .fp8e4m3) (x6 : Vec F S1x2048 .f32) (x7 : Vec F S1x2048 .f32) (x8 : Vec F S1x512x2048 .fp8e4m3) (x9 : Vec F S4x8192 .f32) (x10 : Vec F S1x512x2048 .bf16) (x11 : Vec F S1x512x2048 .bf16) (x12 : Vec F S512x2048 .fp8e4m3) (x13 : Vec F S512x2048 .fp8e4m3) (x14 : Vec F S512x128 .f32) (x15 : Vec F S512x128 .f32) (hpar : t.val % 2 = 1) (hq : t.val < 64) (hp0 : ¬ hp (grid0.coords t) (wordAt c arg1 xt (grid0.coords t)) = 1#1) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ tbPt c arg1 xt
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (codes3 x2 x3) ∗ owns (c : Thread nD τ) arg9 fullShare (scalesU t.val (lanes (scales2 x2 x3)) x9) ∗ owns (c : Thread nD τ) arg10 fullShare x10 ∗ owns (c : Thread nD τ) arg11 fullShare x11 ∗ owns (c : Thread nD τ) arg12 fullShare x12 ∗ owns (c : Thread nD τ) arg13 fullShare (codes2 x2 x3) ∗ owns (c : Thread nD τ) arg14 fullShare x14 ∗ owns (c : Thread nD τ) arg15 fullShare (scales2 x2 x3) ∗ tbPt c arg1 xt) -∗ K ⟨⟩))
        ⊢ wp frame (wpE (defs₀ (F := F)) Variants.none c none) E (cc0_bytes (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  have h1 : ¬ k0_cond1 (grid0.coords t) (wordAt c arg1 xt (grid0.coords t)) = 1#1 := fun h0 => have h := (cond1_iff t _).1 h0; by have := h.1; omega
  have h2 : ¬ k0_cond2 (grid0.coords t) (wordAt c arg1 xt (grid0.coords t)) = 1#1 := fun h0 => have h := (cond2_iff t _).1 h0; by have := h.1; omega
  have h3 : ¬ k0_cond3 (grid0.coords t) (wordAt c arg1 xt (grid0.coords t)) = 1#1 := fun h0 => have h := (cond3_iff t _).1 h0; by have := h.1; omega
  have h4 : ¬ k0_cond4 (grid0.coords t) (wordAt c arg1 xt (grid0.coords t)) = 1#1 := fun h0 => have h := (cond4_iff t _).1 h0; hp0 h.2.2
  have h5 := (cond5_iff t (wordAt c arg1 xt (grid0.coords t))).2 ⟨hpar, hq, hp0⟩
  have h6 : ¬ k0_cond6 (grid0.coords t) (wordAt c arg1 xt (grid0.coords t)) = 1#1 := fun h0 => have h := (cond6_iff t _).1 h0; h.2.1 hq
  simp only [cc0_bytes_eq_skeleton]; unfold cc0_bytes_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, HT, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec (disch := first | exact chk1 t _ | exact h1 | exact h2 | exact h3 | exact h4 | exact h5 | exact h6)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact (fills_t8_codes _).read _ _ cover3_whole
  isplitl [H9]
  · iexists _; isplitr; swap; · iexact H9
    ipureintro; exact read_scales harg9 x9 (off41_at t) _ _ _ (congrArg k0_pay68 (read_col0 _ ((fills_t8_scales _).read _ _ cover2_whole) _))
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact (fills_t8_scratch _).read _ _ cover2_whole
  isplitl [H14]
  · iexists _; isplitr; swap; · iexact H14
    ipureintro; exact harg14.read_unread _
  isplitl [H15]
  · iexists _; isplitr; swap; · iexact H15
    ipureintro; exact (fills_t8_scales _).read _ _ cover2_whole
  iexact HT

end Cert.KernelIdeal.Tile

end
-- ==== Proof.RunProj1.lean ====
/-
  An odd point that projects a tile and quantises nothing.
-/
module

public import proofs.«01_k».proof.Proof.Kit

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: it runs to the continuation holding the memrefs at the tile's functions. -/
theorem runProj1 (c : Dev nD) (t : Fin grid0.N) (arg1 : Memref sig .tc .smem S4 .i32) (harg1 : arg1.IsWhole) (arg2 : Memref sig .tc .vmem S1x512x2048 .bf16) (harg2 : arg2.IsWhole) (arg3 : Memref sig .tc .vmem S1x2048 .f32) (harg3 : arg3.IsWhole) (arg4 : Memref sig .tc .vmem S2048x2048 .fp8e4m3) (harg4 : arg4.IsWhole) (arg5 : Memref sig .tc .vmem S2048x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512x2048 .fp8e4m3) (harg8 : arg8.IsWhole) (arg9 : Memref sig .tc .vmem S4x8192 .f32) (harg9 : arg9.IsWhole) (arg10 : Memref sig .tc .vmem S1x512x2048 .bf16) (harg10 : arg10.IsWhole) (arg11 : Memref sig .tc .vmem S1x512x2048 .bf16) (harg11 : arg11.IsWhole) (arg12 : Memref sig .tc .vmem S512x2048 .fp8e4m3) (harg12 : arg12.IsWhole) (arg13 : Memref sig .tc .vmem S512x2048 .fp8e4m3) (harg13 : arg13.IsWhole) (arg14 : Memref sig .tc .vmem S512x128 .f32) (harg14 : arg14.IsWhole) (arg15 : Memref sig .tc .vmem S512x128 .f32) (harg15 : arg15.IsWhole)
    (xt : TbBuf (F := F) c arg1) (x2 : Vec F S1x512x2048 .bf16) (x3 : Vec F S1x2048 .f32) (x4 : Vec F S2048x2048 .fp8e4m3) (x5 : Vec F S2048x2048 .fp8e4m3) (x6 : Vec F S1x2048 .f32) (x7 : Vec F S1x2048 .f32) (x8 : Vec F S1x512x2048 .fp8e4m3) (x9 : Vec F S4x8192 .f32) (x10 : Vec F S1x512x2048 .bf16) (x11 : Vec F S1x512x2048 .bf16) (x12 : Vec F S512x2048 .fp8e4m3) (x13 : Vec F S512x2048 .fp8e4m3) (x14 : Vec F S512x128 .f32) (x15 : Vec F S512x128 .f32) (hpar : t.val % 2 = 1) (hq : ¬ t.val < 64) (hp0 : hp (grid0.coords t) (wordAt c arg1 xt (grid0.coords t)) = 1#1) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ tbPt c arg1 xt
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (proj x12 x4 x14 x6) ∗ owns (c : Thread nD τ) arg11 fullShare (proj x12 x5 x14 x7) ∗ owns (c : Thread nD τ) arg12 fullShare x12 ∗ owns (c : Thread nD τ) arg13 fullShare x13 ∗ owns (c : Thread nD τ) arg14 fullShare x14 ∗ owns (c : Thread nD τ) arg15 fullShare x15 ∗ tbPt c arg1 xt) -∗ K ⟨⟩))
        ⊢ wp frame (wpE (defs₀ (F := F)) Variants.none c none) E (cc0_bytes (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  have h1 : ¬ k0_cond1 (grid0.coords t) (wordAt c arg1 xt (grid0.coords t)) = 1#1 := fun h0 => have h := (cond1_iff t _).1 h0; by have := h.1; omega
  have h2 : ¬ k0_cond2 (grid0.coords t) (wordAt c arg1 xt (grid0.coords t)) = 1#1 := fun h0 => have h := (cond2_iff t _).1 h0; by have := h.1; omega
  have h3 : ¬ k0_cond3 (grid0.coords t) (wordAt c arg1 xt (grid0.coords t)) = 1#1 := fun h0 => have h := (cond3_iff t _).1 h0; by have := h.1; omega
  have h4 : ¬ k0_cond4 (grid0.coords t) (wordAt c arg1 xt (grid0.coords t)) = 1#1 := fun h0 => have h := (cond4_iff t _).1 h0; hq h.2.1
  have h5 : ¬ k0_cond5 (grid0.coords t) (wordAt c arg1 xt (grid0.coords t)) = 1#1 := fun h0 => have h := (cond5_iff t _).1 h0; hq h.2.1
  have h6 := (cond6_iff t (wordAt c arg1 xt (grid0.coords t))).2 ⟨hpar, hq, hp0⟩
  simp only [cc0_bytes_eq_skeleton]; unfold cc0_bytes_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, HT, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec (disch := first | exact chk1 t _ | exact h1 | exact h2 | exact h3 | exact h4 | exact h5 | exact h6)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact fills_t9_k.read _ _ cover_cols
  isplitl [H11]
  · iexists _; isplitr; swap; · iexact H11
    ipureintro; exact fills_t10_v.read _ _ cover_cols
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  iexact HT

end Cert.KernelIdeal.Tile

end
-- ==== Proof.RunNone.lean ====
/-
  A point that neither quantises nor projects.
-/
module

public import proofs.«01_k».proof.Proof.Kit

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body on whole memrefs: it runs to the continuation holding the memrefs at the tile's functions. -/
theorem runNone (c : Dev nD) (t : Fin grid0.N) (arg1 : Memref sig .tc .smem S4 .i32) (harg1 : arg1.IsWhole) (arg2 : Memref sig .tc .vmem S1x512x2048 .bf16) (harg2 : arg2.IsWhole) (arg3 : Memref sig .tc .vmem S1x2048 .f32) (harg3 : arg3.IsWhole) (arg4 : Memref sig .tc .vmem S2048x2048 .fp8e4m3) (harg4 : arg4.IsWhole) (arg5 : Memref sig .tc .vmem S2048x2048 .fp8e4m3) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x512x2048 .fp8e4m3) (harg8 : arg8.IsWhole) (arg9 : Memref sig .tc .vmem S4x8192 .f32) (harg9 : arg9.IsWhole) (arg10 : Memref sig .tc .vmem S1x512x2048 .bf16) (harg10 : arg10.IsWhole) (arg11 : Memref sig .tc .vmem S1x512x2048 .bf16) (harg11 : arg11.IsWhole) (arg12 : Memref sig .tc .vmem S512x2048 .fp8e4m3) (harg12 : arg12.IsWhole) (arg13 : Memref sig .tc .vmem S512x2048 .fp8e4m3) (harg13 : arg13.IsWhole) (arg14 : Memref sig .tc .vmem S512x128 .f32) (harg14 : arg14.IsWhole) (arg15 : Memref sig .tc .vmem S512x128 .f32) (harg15 : arg15.IsWhole)
    (xt : TbBuf (F := F) c arg1) (x2 : Vec F S1x512x2048 .bf16) (x3 : Vec F S1x2048 .f32) (x4 : Vec F S2048x2048 .fp8e4m3) (x5 : Vec F S2048x2048 .fp8e4m3) (x6 : Vec F S1x2048 .f32) (x7 : Vec F S1x2048 .f32) (x8 : Vec F S1x512x2048 .fp8e4m3) (x9 : Vec F S4x8192 .f32) (x10 : Vec F S1x512x2048 .bf16) (x11 : Vec F S1x512x2048 .bf16) (x12 : Vec F S512x2048 .fp8e4m3) (x13 : Vec F S512x2048 .fp8e4m3) (x14 : Vec F S512x128 .f32) (x15 : Vec F S512x128 .f32) (hq : ¬ t.val < 64) (hp0 : ¬ hp (grid0.coords t) (wordAt c arg1 xt (grid0.coords t)) = 1#1) :
    ∀ (E : Set ℕ) (K : PUnit → sProp 𝕄),
      iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ tbPt c arg1 xt
          ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ tbPt c arg1 xt) -∗ K ⟨⟩))
        ⊢ wp frame (wpE (defs₀ (F := F)) Variants.none c none) E (cc0_bytes (grid0.coords t) arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  intro E K
  have h1 : ¬ k0_cond1 (grid0.coords t) (wordAt c arg1 xt (grid0.coords t)) = 1#1 := fun h0 => have h := (cond1_iff t _).1 h0; hq h.2.1
  have h2 : ¬ k0_cond2 (grid0.coords t) (wordAt c arg1 xt (grid0.coords t)) = 1#1 := fun h0 => have h := (cond2_iff t _).1 h0; hq h.2.1
  have h3 : ¬ k0_cond3 (grid0.coords t) (wordAt c arg1 xt (grid0.coords t)) = 1#1 := fun h0 => have h := (cond3_iff t _).1 h0; hp0 h.2.2
  have h4 : ¬ k0_cond4 (grid0.coords t) (wordAt c arg1 xt (grid0.coords t)) = 1#1 := fun h0 => have h := (cond4_iff t _).1 h0; hq h.2.1
  have h5 : ¬ k0_cond5 (grid0.coords t) (wordAt c arg1 xt (grid0.coords t)) = 1#1 := fun h0 => have h := (cond5_iff t _).1 h0; hq h.2.1
  have h6 : ¬ k0_cond6 (grid0.coords t) (wordAt c arg1 xt (grid0.coords t)) = 1#1 := fun h0 => have h := (cond6_iff t _).1 h0; hp0 h.2.2
  simp only [cc0_bytes_eq_skeleton]; unfold cc0_bytes_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, HT, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg10.eq_unread hf10
  obtain rfl := harg11.eq_unread hf11
  obtain rfl := harg12.eq_unread hf12
  obtain rfl := harg13.eq_unread hf13
  obtain rfl := harg14.eq_unread hf14
  obtain rfl := harg15.eq_unread hf15
  sl_exec (disch := first | exact chk1 t _ | exact h1 | exact h2 | exact h3 | exact h4 | exact h5 | exact h6)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  iexact HT

end Cert.KernelIdeal.Tile

end
-- ==== Proof.Region.lean ====
/-
  The region: what the kernel carries from point to point and what it leaves in each window, as a relation between what
  it finds there and what it leaves; the body keeps it at every point, so the run ends with every array in it.
-/
module

public import proofs.«01_k».proof.Proof.RunBoth0
public import proofs.«01_k».proof.Proof.RunQuant0
public import proofs.«01_k».proof.Proof.RunProj0
public import proofs.«01_k».proof.Proof.RunBoth1
public import proofs.«01_k».proof.Proof.RunQuant1
public import proofs.«01_k».proof.Proof.RunProj1
public import proofs.«01_k».proof.Proof.RunNone
public import proofs.«01_k».proof.Proof.Gen.KernelIdeal.Launch

@[expose] public section

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The table's contents. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- Every table is admissible, and the pipeline at this one. -/
abbrev adm : (pcfg0 (F := F)).Adm := ⟨tbl m, ok0_all (tbl m)⟩
abbrev cfgM : Pipeline.Cfg sig Λ₀ := cfg0 (adm m)

abbrev tbM : Memref sig .tc .smem S4 .i32 := Memref.whole main_arg0
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The word of the table the body reads at a point. -/
abbrev wd (c : Dev nD) (t : Fin grid0.N) : BitVec 32 := wordAt c tbM (tbl m 0) (grid0.coords t)

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))
abbrev xb (c : Dev nD) (t : Fin (cfgM m).N) : Vec F S1x512x2048 .bf16 := iblk m c 0 t
abbrev gb (c : Dev nD) (t : Fin (cfgM m).N) : Vec F S1x2048 .f32 := iblk m c 1 t
abbrev wkb (c : Dev nD) (t : Fin (cfgM m).N) : Vec F S2048x2048 .fp8e4m3 := iblk m c 2 t
abbrev wvb (c : Dev nD) (t : Fin (cfgM m).N) : Vec F S2048x2048 .fp8e4m3 := iblk m c 3 t
abbrev skb (c : Dev nD) (t : Fin (cfgM m).N) : Vec F S1x2048 .f32 := iblk m c 4 t
abbrev svb (c : Dev nD) (t : Fin (cfgM m).N) : Vec F S1x2048 .f32 := iblk m c 5 t

abbrev sc0 : Memref sig .tc .vmem S512x2048 .fp8e4m3 := Memref.whole cc0_scratch0
abbrev sc1 : Memref sig .tc .vmem S512x2048 .fp8e4m3 := Memref.whole cc0_scratch1
abbrev sc2 : Memref sig .tc .vmem S512x128 .f32 := Memref.whole cc0_scratch2
abbrev sc3 : Memref sig .tc .vmem S512x128 .f32 := Memref.whole cc0_scratch3
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The point before. -/
def pv (t : Fin grid0.N) : Fin grid0.N := ⟨t.val - 1, lt_of_le_of_lt (Nat.sub_le _ _) t.isLt⟩

/-- A tile's codes, its scales spread over the lanes, as the scratch buffers carry them to the next point. -/
abbrev tc (c : Dev nD) (t : Fin grid0.N) : Vec F S512x2048 .fp8e4m3 := codes2 (xb m c t) (gb m c t)
abbrev ts (c : Dev nD) (t : Fin grid0.N) : Vec F S512x128 .f32 := scales2 (xb m c t) (gb m c t)

/-- What the scratch buffers hold before point `n`: the codes and scales of the tile quantised at the point before, in
    the pair of its parity. -/
def Carried (c : Dev nD) (n : ℕ) (d0 d1 : Vec F S512x2048 .fp8e4m3) (d2 d3 : Vec F S512x128 .f32) : Prop :=
  ∀ t : Fin grid0.N, t.val + 1 = n → t.val < 64 →
    (t.val % 2 = 0 → d0 = tc m c t ∧ d2 = ts m c t) ∧ (t.val % 2 = 1 → d1 = tc m c t ∧ d3 = ts m c t)

def Φn (c : Dev nD) (n : ℕ) : sProp 𝕄 :=
  iprop((∃ d0 d1 d2 d3, ⌜Carried m c n d0 d1 d2 d3⌝ ∗ owns (c : Thread nD τ) sc0 fullShare d0 ∗ owns (c : Thread nD τ) sc1 fullShare d1
      ∗ owns (c : Thread nD τ) sc2 fullShare d2 ∗ owns (c : Thread nD τ) sc3 fullShare d3)
    ∗ (∃ r, prngReg c r) ∗ tbPt c tbM (tbl m 0))

/-- What the body leaves in an output window, given what it found. -/
def aftC (c : Dev nD) (t : Fin grid0.N) (Y X : Vec F S1x512x2048 .fp8e4m3) : Prop :=
  X = if t.val < 64 then codes3 (xb m c t) (gb m c t) else Y
def aftS (c : Dev nD) (t : Fin grid0.N) (Y X : Vec F S4x8192 .f32) : Prop :=
  X = if t.val < 64 then scalesU t.val (lanes (ts m c t)) Y else Y
def aftK (c : Dev nD) (t : Fin grid0.N) (Y X : Vec F S1x512x2048 .bf16) : Prop :=
  X = if hp (grid0.coords t) (wd m c t) = 1#1 then proj (tc m c (pv t)) (wkb m c t) (ts m c (pv t)) (skb m c t) else Y
def aftV (c : Dev nD) (t : Fin grid0.N) (Y X : Vec F S1x512x2048 .bf16) : Prop :=
  X = if hp (grid0.coords t) (wd m c t) = 1#1 then proj (tc m c (pv t)) (wvb m c t) (ts m c (pv t)) (svb m c t) else Y

/-- The region's data: inputs left as found, the outputs as above. -/
def rdat (c : Dev nD) : Pipeline.RDat τ (Elt F) Unit ℕ (UR sig nD τ) ℕ (cfgM m) c where
  A w := V m c (Pipeline.arrRef spec0 w)
  after w t Y X := match w with
    | ⟨6, _⟩ => aftC m c t Y X
    | ⟨7, _⟩ => aftS m c t Y X
    | ⟨8, _⟩ => aftK m c t Y X
    | ⟨9, _⟩ => aftV m c t Y X
    | ⟨_, _⟩ => X = Y
  Φ n := Φn m c n.val
  q _ := fullShare
  owed _ := 0

theorem rdat_A (c : Dev nD) (w : Fin (cfgM m).W) : (rdat m c).A w = V m c (Pipeline.arrRef spec0 w) := by
  dsimp only [rdat]

theorem finds_0 (c : Dev nD) (t : Fin (cfgM m).N) (Y) (h : (rdat m c).Finds 0 t Y) : Y = iblk m c 0 t :=
  ((rdat m c).finds_in_eq_fetched 0 rfl (fun _ _ _ => rfl) (fun _ _ _ h => h) t Y h).elim fun d e =>
    e.trans (by unfold Pipeline.RDat.fetched Pipeline.RDat.blockOf iblk; rw [rdat_A]; try rfl)
theorem finds_1 (c : Dev nD) (t : Fin (cfgM m).N) (Y) (h : (rdat m c).Finds 1 t Y) : Y = iblk m c 1 t :=
  ((rdat m c).finds_in_eq_fetched 1 rfl (fun _ _ _ => rfl) (fun _ _ _ h => h) t Y h).elim fun d e =>
    e.trans (by unfold Pipeline.RDat.fetched Pipeline.RDat.blockOf iblk; rw [rdat_A]; try rfl)
theorem finds_2 (c : Dev nD) (t : Fin (cfgM m).N) (Y) (h : (rdat m c).Finds 2 t Y) : Y = iblk m c 2 t :=
  ((rdat m c).finds_in_eq_fetched 2 rfl (fun _ _ _ => rfl) (fun _ _ _ h => h) t Y h).elim fun d e =>
    e.trans (by unfold Pipeline.RDat.fetched Pipeline.RDat.blockOf iblk; rw [rdat_A]; try rfl)
theorem finds_3 (c : Dev nD) (t : Fin (cfgM m).N) (Y) (h : (rdat m c).Finds 3 t Y) : Y = iblk m c 3 t :=
  ((rdat m c).finds_in_eq_fetched 3 rfl (fun _ _ _ => rfl) (fun _ _ _ h => h) t Y h).elim fun d e =>
    e.trans (by unfold Pipeline.RDat.fetched Pipeline.RDat.blockOf iblk; rw [rdat_A]; try rfl)
theorem finds_4 (c : Dev nD) (t : Fin (cfgM m).N) (Y) (h : (rdat m c).Finds 4 t Y) : Y = iblk m c 4 t :=
  ((rdat m c).finds_in_eq_fetched 4 rfl (fun _ _ _ => rfl) (fun _ _ _ h => h) t Y h).elim fun d e =>
    e.trans (by unfold Pipeline.RDat.fetched Pipeline.RDat.blockOf iblk; rw [rdat_A]; try rfl)
theorem finds_5 (c : Dev nD) (t : Fin (cfgM m).N) (Y) (h : (rdat m c).Finds 5 t Y) : Y = iblk m c 5 t :=
  ((rdat m c).finds_in_eq_fetched 5 rfl (fun _ _ _ => rfl) (fun _ _ _ h => h) t Y h).elim fun d e =>
    e.trans (by unfold Pipeline.RDat.fetched Pipeline.RDat.blockOf iblk; rw [rdat_A]; try rfl)

/-! ## The body at a point -/

abbrev ms0 (t : Fin (cfgM m).N) : Memref sig .tc .vmem S1x512x2048 .bf16 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x2048 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S2048x2048 .fp8e4m3 := spec0_2.stage ((cfgM m).slots t 2)
abbrev hs2 (t : Fin (cfgM m).N) : (ms2 m t).IsWhole := hstage0_2 (((cfgM m).slots t 2).cast nbuf0_2)
abbrev ms3 (t : Fin (cfgM m).N) : Memref sig .tc .vmem S2048x2048 .fp8e4m3 := spec0_3.stage ((cfgM m).slots t 3)
abbrev hs3 (t : Fin (cfgM m).N) : (ms3 m t).IsWhole := hstage0_3 (((cfgM m).slots t 3).cast nbuf0_3)
abbrev ms4 (t : Fin (cfgM m).N) : Memref sig .tc .vmem S1x2048 .f32 := spec0_4.stage ((cfgM m).slots t 4)
abbrev hs4 (t : Fin (cfgM m).N) : (ms4 m t).IsWhole := hstage0_4 (((cfgM m).slots t 4).cast nbuf0_4)
abbrev ms5 (t : Fin (cfgM m).N) : Memref sig .tc .vmem S1x2048 .f32 := spec0_5.stage ((cfgM m).slots t 5)
abbrev hs5 (t : Fin (cfgM m).N) : (ms5 m t).IsWhole := hstage0_5 (((cfgM m).slots t 5).cast nbuf0_5)
abbrev ms6 (t : Fin (cfgM m).N) : Memref sig .tc .vmem S1x512x2048 .fp8e4m3 := spec0_6.stage ((cfgM m).slots t 6)
abbrev hs6 (t : Fin (cfgM m).N) : (ms6 m t).IsWhole := hstage0_6 (((cfgM m).slots t 6).cast nbuf0_6)
abbrev ms7 (t : Fin (cfgM m).N) : Memref sig .tc .vmem S4x8192 .f32 := spec0_7.stage ((cfgM m).slots t 7)
abbrev hs7 (t : Fin (cfgM m).N) : (ms7 m t).IsWhole := hstage0_7 (((cfgM m).slots t 7).cast nbuf0_7)
abbrev ms8 (t : Fin (cfgM m).N) : Memref sig .tc .vmem S1x512x2048 .bf16 := spec0_8.stage ((cfgM m).slots t 8)
abbrev hs8 (t : Fin (cfgM m).N) : (ms8 m t).IsWhole := hstage0_8 (((cfgM m).slots t 8).cast nbuf0_8)
abbrev ms9 (t : Fin (cfgM m).N) : Memref sig .tc .vmem S1x512x2048 .bf16 := spec0_9.stage ((cfgM m).slots t 9)
abbrev hs9 (t : Fin (cfgM m).N) : (ms9 m t).IsWhole := hstage0_9 (((cfgM m).slots t 9).cast nbuf0_9)

/-- The body as the pipeline calls it at point `t`. -/
abbrev bodyAt (t : Fin (cfgM m).N) : Prog (TpuEff nD τ sig (Elt F) Λ₀ .tc) PUnit :=
  cc0_bytes (grid0.coords t) tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) sc0 (Memref.isWhole_whole _) sc1 (Memref.isWhole_whole _) sc2 (Memref.isWhole_whole _) sc3 (Memref.isWhole_whole _)

theorem defs₀_row (t : Fin (cfgM m).N) :
    defs₀ (F := F) .tc (cfgM m).body ((cfgM m).bodyArgs t ((cfgM m).slots t)) = bodyAt m t := by
  unfold defs₀; rw [Defs.onTc_tc]

/-- What the body is handed at point `t`, the outputs' buffers at `y6 … y9`, -/
def bodyPre (c : Dev nD) (t : Fin (cfgM m).N) (y6 : Vec F S1x512x2048 .fp8e4m3) (y7 : Vec F S4x8192 .f32) (y8 : Vec F S1x512x2048 .bf16) (y9 : Vec F S1x512x2048 .bf16) : sProp 𝕄 :=
  iprop(Φn m c t.val ∗ (rdat m c).owesAt () t.castSucc ∗ owns (c : Thread nD τ) (ms0 m t) fullShare (xb m c t) ∗ owns (c : Thread nD τ) (ms1 m t) fullShare (gb m c t) ∗ owns (c : Thread nD τ) (ms2 m t) fullShare (wkb m c t) ∗ owns (c : Thread nD τ) (ms3 m t) fullShare (wvb m c t) ∗ owns (c : Thread nD τ) (ms4 m t) fullShare (skb m c t) ∗ owns (c : Thread nD τ) (ms5 m t) fullShare (svb m c t)
    ∗ owns (c : Thread nD τ) (ms6 m t) fullShare y6 ∗ owns (c : Thread nD τ) (ms7 m t) fullShare y7 ∗ owns (c : Thread nD τ) (ms8 m t) fullShare y8 ∗ owns (c : Thread nD τ) (ms9 m t) fullShare y9)

/-- and what it hands back. -/
def bodyPost (c : Dev nD) (t : Fin (cfgM m).N) (y6 : Vec F S1x512x2048 .fp8e4m3) (y7 : Vec F S4x8192 .f32) (y8 : Vec F S1x512x2048 .bf16) (y9 : Vec F S1x512x2048 .bf16) : sProp 𝕄 :=
  iprop(Φn m c (t.val + 1) ∗ (rdat m c).owesAt () t.succ
    ∗ (∃ X, ⌜X = xb m c t⌝ ∗ owns (c : Thread nD τ) (ms0 m t) fullShare X) ∗ (∃ X, ⌜X = gb m c t⌝ ∗ owns (c : Thread nD τ) (ms1 m t) fullShare X) ∗ (∃ X, ⌜X = wkb m c t⌝ ∗ owns (c : Thread nD τ) (ms2 m t) fullShare X) ∗ (∃ X, ⌜X = wvb m c t⌝ ∗ owns (c : Thread nD τ) (ms3 m t) fullShare X) ∗ (∃ X, ⌜X = skb m c t⌝ ∗ owns (c : Thread nD τ) (ms4 m t) fullShare X) ∗ (∃ X, ⌜X = svb m c t⌝ ∗ owns (c : Thread nD τ) (ms5 m t) fullShare X)
    ∗ (∃ X, ⌜aftC m c t y6 X⌝ ∗ owns (c : Thread nD τ) (ms6 m t) fullShare X) ∗ (∃ X, ⌜aftS m c t y7 X⌝ ∗ owns (c : Thread nD τ) (ms7 m t) fullShare X) ∗ (∃ X, ⌜aftK m c t y8 X⌝ ∗ owns (c : Thread nD τ) (ms8 m t) fullShare X) ∗ (∃ X, ⌜aftV m c t y9 X⌝ ∗ owns (c : Thread nD τ) (ms9 m t) fullShare X))

/-- The buffers at contents in the relations, with what the scratch carries on, are what the body hands back. -/
theorem hand_back (c : Dev nD) (t : Fin (cfgM m).N) {y6 y7 y8 y9} {x6 x7 x8 x9 d0 d1 d2 d3}
    (h6 : aftC m c t y6 x6) (h7 : aftS m c t y7 x7) (h8 : aftK m c t y8 x8) (h9 : aftV m c t y9 x9)
    (hd : Carried m c (t.val + 1) d0 d1 d2 d3) :
    iprop((∃ r, prngReg c r) ∗ (rdat m c).owesAt () t.castSucc ∗ owns (c : Thread nD τ) (ms0 m t) fullShare (xb m c t) ∗ owns (c : Thread nD τ) (ms1 m t) fullShare (gb m c t) ∗ owns (c : Thread nD τ) (ms2 m t) fullShare (wkb m c t) ∗ owns (c : Thread nD τ) (ms3 m t) fullShare (wvb m c t) ∗ owns (c : Thread nD τ) (ms4 m t) fullShare (skb m c t) ∗ owns (c : Thread nD τ) (ms5 m t) fullShare (svb m c t) ∗ owns (c : Thread nD τ) (ms6 m t) fullShare x6 ∗ owns (c : Thread nD τ) (ms7 m t) fullShare x7 ∗ owns (c : Thread nD τ) (ms8 m t) fullShare x8 ∗ owns (c : Thread nD τ) (ms9 m t) fullShare x9
      ∗ owns (c : Thread nD τ) sc0 fullShare d0 ∗ owns (c : Thread nD τ) sc1 fullShare d1 ∗ owns (c : Thread nD τ) sc2 fullShare d2 ∗ owns (c : Thread nD τ) sc3 fullShare d3 ∗ tbPt c tbM (tbl m 0))
    ⊢ (bodyPost m c t y6 y7 y8 y9 : sProp 𝕄) := by
  unfold bodyPost Φn
  iintro ⟨Hg, Ho, H0, H1, H2, H3, H4, H5, H6, H7, H8, H9, S0, S1, S2, S3, HT⟩
  isplitl [Hg S0 S1 S2 S3 HT]
  · isplitl [S0 S1 S2 S3]
    · iexists _, _, _, _; isplitr; · ipureintro; exact hd
      isplitl [S0]; · iexact S0
      isplitl [S1]; · iexact S1
      isplitl [S2]; · iexact S2
      iexact S3
    isplitl [Hg]; · iexact Hg
    iexact HT
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  iexists _; isplitr; swap; · iexact H9
  ipureintro; exact h9

theorem aftC_yes {c : Dev nD} {t : Fin grid0.N} (h : t.val < 64) (Y) : aftC m c t Y (codes3 (xb m c t) (gb m c t)) := by unfold aftC; rw [if_pos h]
theorem aftC_no {c : Dev nD} {t : Fin grid0.N} (h : ¬ t.val < 64) (Y) : aftC m c t Y Y := by unfold aftC; rw [if_neg h]
theorem aftS_yes {c : Dev nD} {t : Fin grid0.N} (h : t.val < 64) (Y) : aftS m c t Y (scalesU t.val (lanes (ts m c t)) Y) := by unfold aftS; rw [if_pos h]
theorem aftS_no {c : Dev nD} {t : Fin grid0.N} (h : ¬ t.val < 64) (Y) : aftS m c t Y Y := by unfold aftS; rw [if_neg h]
theorem aftK_yes {c : Dev nD} {t : Fin grid0.N} (h : hp (grid0.coords t) (wd m c t) = 1#1) {d e} (hd : d = tc m c (pv t)) (he : e = ts m c (pv t)) (Y) :
    aftK m c t Y (proj d (wkb m c t) e (skb m c t)) := by unfold aftK; rw [if_pos h, hd, he]
theorem aftK_no {c : Dev nD} {t : Fin grid0.N} (h : ¬ hp (grid0.coords t) (wd m c t) = 1#1) (Y) : aftK m c t Y Y := by unfold aftK; rw [if_neg h]
theorem aftV_yes {c : Dev nD} {t : Fin grid0.N} (h : hp (grid0.coords t) (wd m c t) = 1#1) {d e} (hd : d = tc m c (pv t)) (he : e = ts m c (pv t)) (Y) :
    aftV m c t Y (proj d (wvb m c t) e (svb m c t)) := by unfold aftV; rw [if_pos h, hd, he]
theorem aftV_no {c : Dev nD} {t : Fin grid0.N} (h : ¬ hp (grid0.coords t) (wd m c t) = 1#1) (Y) : aftV m c t Y Y := by unfold aftV; rw [if_neg h]

/-- A projecting point is not the first. -/
theorem hp_pos (t : Fin grid0.N) (v : BitVec 32) (h : hp (grid0.coords t) v = 1#1) : 0 < t.val := by
  have h0 : ∀ (t : Fin grid0.N) (b : BitVec 1), Scalar.andi (Scalar.cmpi .sgt (aw (grid0.coords t)) 0#32) b = 1#1 → 0 < t.val := by decide +kernel
  exact h0 t _ h

/-- What a projecting point finds in the scratch pair of the other parity. -/
theorem carried_even {c : Dev nD} {t : Fin grid0.N} {d0 d1 d2 d3} (hd : Carried m c t.val d0 d1 d2 d3) (h0 : 0 < t.val) (hp : t.val % 2 = 1) :
    d0 = tc m c (pv t) ∧ d2 = ts m c (pv t) :=
  (hd (pv t) (Nat.sub_add_cancel h0) (by have := lt_of_lt_of_eq t.isLt N_0; show t.val - 1 < 64; omega)).1 (by show (t.val - 1) % 2 = 0; omega)
theorem carried_odd {c : Dev nD} {t : Fin grid0.N} {d0 d1 d2 d3} (hd : Carried m c t.val d0 d1 d2 d3) (h0 : 0 < t.val) (hp : t.val % 2 = 0) :
    d1 = tc m c (pv t) ∧ d3 = ts m c (pv t) :=
  (hd (pv t) (Nat.sub_add_cancel h0) (by have := lt_of_lt_of_eq t.isLt N_0; show t.val - 1 < 64; omega)).2 (by show (t.val - 1) % 2 = 1; omega)
/-- What a quantising point carries on, and what a point that does not quantise need not. -/
theorem carry_even {c : Dev nD} {t : Fin grid0.N} (hp : t.val % 2 = 0) (d1 d3) : Carried m c (t.val + 1) (tc m c t) d1 (ts m c t) d3 := fun u hu _ => by
  obtain rfl : u = t := Fin.ext (by omega)
  exact ⟨fun _ => ⟨rfl, rfl⟩, fun h => by omega⟩
theorem carry_odd {c : Dev nD} {t : Fin grid0.N} (hp : t.val % 2 = 1) (d0 d2) : Carried m c (t.val + 1) d0 (tc m c t) d2 (ts m c t) := fun u hu _ => by
  obtain rfl : u = t := Fin.ext (by omega)
  exact ⟨fun h => by omega, fun _ => ⟨rfl, rfl⟩⟩
theorem carry_none {c : Dev nD} {t : Fin grid0.N} (hq : ¬ t.val < 64) (d0 d1 d2 d3) : Carried m c (t.val + 1) d0 d1 d2 d3 := fun u hu h => by omega

/-- A run of the body at a point, between contents in the relations, is the body's run between what it is handed and what it
    hands back. -/
theorem at_point (c : Dev nD) (t : Fin (cfgM m).N) {y6 y7 y8 y9 d0 d1 d2 d3 x6 x7 x8 x9 e0 e1 e2 e3}
    (hrun : ∀ (E : Set ℕ) (K : PUnit → sProp 𝕄), iprop(owns (c : Thread nD τ) (ms0 m t) fullShare (xb m c t) ∗ owns (c : Thread nD τ) (ms1 m t) fullShare (gb m c t) ∗ owns (c : Thread nD τ) (ms2 m t) fullShare (wkb m c t) ∗ owns (c : Thread nD τ) (ms3 m t) fullShare (wvb m c t) ∗ owns (c : Thread nD τ) (ms4 m t) fullShare (skb m c t) ∗ owns (c : Thread nD τ) (ms5 m t) fullShare (svb m c t) ∗ owns (c : Thread nD τ) (ms6 m t) fullShare y6 ∗ owns (c : Thread nD τ) (ms7 m t) fullShare y7 ∗ owns (c : Thread nD τ) (ms8 m t) fullShare y8 ∗ owns (c : Thread nD τ) (ms9 m t) fullShare y9 ∗ owns (c : Thread nD τ) sc0 fullShare d0 ∗ owns (c : Thread nD τ) sc1 fullShare d1 ∗ owns (c : Thread nD τ) sc2 fullShare d2 ∗ owns (c : Thread nD τ) sc3 fullShare d3 ∗ tbPt c tbM (tbl m 0) ∗ (iprop(owns (c : Thread nD τ) (ms0 m t) fullShare (xb m c t) ∗ owns (c : Thread nD τ) (ms1 m t) fullShare (gb m c t) ∗ owns (c : Thread nD τ) (ms2 m t) fullShare (wkb m c t) ∗ owns (c : Thread nD τ) (ms3 m t) fullShare (wvb m c t) ∗ owns (c : Thread nD τ) (ms4 m t) fullShare (skb m c t) ∗ owns (c : Thread nD τ) (ms5 m t) fullShare (svb m c t) ∗ owns (c : Thread nD τ) (ms6 m t) fullShare x6 ∗ owns (c : Thread nD τ) (ms7 m t) fullShare x7 ∗ owns (c : Thread nD τ) (ms8 m t) fullShare x8 ∗ owns (c : Thread nD τ) (ms9 m t) fullShare x9 ∗ owns (c : Thread nD τ) sc0 fullShare e0 ∗ owns (c : Thread nD τ) sc1 fullShare e1 ∗ owns (c : Thread nD τ) sc2 fullShare e2 ∗ owns (c : Thread nD τ) sc3 fullShare e3 ∗ tbPt c tbM (tbl m 0)) -∗ K ⟨⟩))
      ⊢ wp frame (wpE (defs₀ (F := F)) Variants.none c none) E (bodyAt m t) K)
    (h6 : aftC m c t y6 x6) (h7 : aftS m c t y7 x7) (h8 : aftK m c t y8 x8) (h9 : aftV m c t y9 x9)
    (hd : Carried m c (t.val + 1) e0 e1 e2 e3) :
    iprop(((∃ r, prngReg c r) ∗ (rdat m c).owesAt () t.castSucc) ∗ owns (c : Thread nD τ) (ms0 m t) fullShare (xb m c t) ∗ owns (c : Thread nD τ) (ms1 m t) fullShare (gb m c t) ∗ owns (c : Thread nD τ) (ms2 m t) fullShare (wkb m c t) ∗ owns (c : Thread nD τ) (ms3 m t) fullShare (wvb m c t) ∗ owns (c : Thread nD τ) (ms4 m t) fullShare (skb m c t) ∗ owns (c : Thread nD τ) (ms5 m t) fullShare (svb m c t) ∗ owns (c : Thread nD τ) (ms6 m t) fullShare y6 ∗ owns (c : Thread nD τ) (ms7 m t) fullShare y7 ∗ owns (c : Thread nD τ) (ms8 m t) fullShare y8 ∗ owns (c : Thread nD τ) (ms9 m t) fullShare y9 ∗ owns (c : Thread nD τ) sc0 fullShare d0 ∗ owns (c : Thread nD τ) sc1 fullShare d1 ∗ owns (c : Thread nD τ) sc2 fullShare d2 ∗ owns (c : Thread nD τ) sc3 fullShare d3 ∗ tbPt c tbM (tbl m 0))
    ⊢ wp frame (wpE (defs₀ (F := F)) Variants.none c none) Set.univ (bodyAt m t) (fun _ => bodyPost m c t y6 y7 y8 y9) := by
  iintro ⟨⟨Hg, Ho⟩, H0, H1, H2, H3, H4, H5, H6, H7, H8, H9, S0, S1, S2, S3, HT⟩
  iapply (hrun Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  isplitl [HT]; · iexact HT
  iintro ⟨H0, H1, H2, H3, H4, H5, H6, H7, H8, H9, S0, S1, S2, S3, HT⟩
  iapply (hand_back m c t h6 h7 h8 h9 hd)
  isplitl [Hg]; · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  iexact HT

set_option maxHeartbeats 1600000 in
/-- The body at any point, case by case. -/
theorem sound_cases (c : Dev nD) (t : Fin (cfgM m).N) {y6 y7 y8 y9 d0 d1 d2 d3} (hd : Carried m c t.val d0 d1 d2 d3) :
    iprop(((∃ r, prngReg c r) ∗ (rdat m c).owesAt () t.castSucc) ∗ owns (c : Thread nD τ) (ms0 m t) fullShare (xb m c t) ∗ owns (c : Thread nD τ) (ms1 m t) fullShare (gb m c t) ∗ owns (c : Thread nD τ) (ms2 m t) fullShare (wkb m c t) ∗ owns (c : Thread nD τ) (ms3 m t) fullShare (wvb m c t) ∗ owns (c : Thread nD τ) (ms4 m t) fullShare (skb m c t) ∗ owns (c : Thread nD τ) (ms5 m t) fullShare (svb m c t) ∗ owns (c : Thread nD τ) (ms6 m t) fullShare y6 ∗ owns (c : Thread nD τ) (ms7 m t) fullShare y7 ∗ owns (c : Thread nD τ) (ms8 m t) fullShare y8 ∗ owns (c : Thread nD τ) (ms9 m t) fullShare y9 ∗ owns (c : Thread nD τ) sc0 fullShare d0 ∗ owns (c : Thread nD τ) sc1 fullShare d1 ∗ owns (c : Thread nD τ) sc2 fullShare d2 ∗ owns (c : Thread nD τ) sc3 fullShare d3 ∗ tbPt c tbM (tbl m 0))
    ⊢ wp frame (wpE (defs₀ (F := F)) Variants.none c none) Set.univ (bodyAt m t) (fun _ => bodyPost m c t y6 y7 y8 y9) := by
  by_cases hv : hp (grid0.coords t) (wd m c t) = 1#1
  · have hv0 := hp_pos t _ hv
    rcases Nat.mod_two_eq_zero_or_one t.val with hpar | hpar
    · have hc := carried_odd m hd hv0 hpar
      by_cases hq : t.val < 64
      · have hrun := runBoth0 (F := F) c t tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) sc0 (Memref.isWhole_whole _) sc1 (Memref.isWhole_whole _) sc2 (Memref.isWhole_whole _) sc3 (Memref.isWhole_whole _) (tbl m 0) (xb m c t) (gb m c t) (wkb m c t) (wvb m c t) (skb m c t) (svb m c t) y6 y7 y8 y9 d0 d1 d2 d3 hpar hq hv
        exact at_point m c t hrun (by exact aftC_yes m hq _) (by exact aftS_yes m hq _) (by exact aftK_yes m hv hc.1 hc.2 _) (by exact aftV_yes m hv hc.1 hc.2 _) (by exact carry_even m hpar _ _)
      · have hrun := runProj0 (F := F) c t tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) sc0 (Memref.isWhole_whole _) sc1 (Memref.isWhole_whole _) sc2 (Memref.isWhole_whole _) sc3 (Memref.isWhole_whole _) (tbl m 0) (xb m c t) (gb m c t) (wkb m c t) (wvb m c t) (skb m c t) (svb m c t) y6 y7 y8 y9 d0 d1 d2 d3 hpar hq hv
        exact at_point m c t hrun (by exact aftC_no m hq _) (by exact aftS_no m hq _) (by exact aftK_yes m hv hc.1 hc.2 _) (by exact aftV_yes m hv hc.1 hc.2 _) (by exact carry_none m hq _ _ _ _)
    · have hc := carried_even m hd hv0 hpar
      by_cases hq : t.val < 64
      · have hrun := runBoth1 (F := F) c t tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) sc0 (Memref.isWhole_whole _) sc1 (Memref.isWhole_whole _) sc2 (Memref.isWhole_whole _) sc3 (Memref.isWhole_whole _) (tbl m 0) (xb m c t) (gb m c t) (wkb m c t) (wvb m c t) (skb m c t) (svb m c t) y6 y7 y8 y9 d0 d1 d2 d3 hpar hq hv
        exact at_point m c t hrun (by exact aftC_yes m hq _) (by exact aftS_yes m hq _) (by exact aftK_yes m hv hc.1 hc.2 _) (by exact aftV_yes m hv hc.1 hc.2 _) (by exact carry_odd m hpar _ _)
      · have hrun := runProj1 (F := F) c t tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) sc0 (Memref.isWhole_whole _) sc1 (Memref.isWhole_whole _) sc2 (Memref.isWhole_whole _) sc3 (Memref.isWhole_whole _) (tbl m 0) (xb m c t) (gb m c t) (wkb m c t) (wvb m c t) (skb m c t) (svb m c t) y6 y7 y8 y9 d0 d1 d2 d3 hpar hq hv
        exact at_point m c t hrun (by exact aftC_no m hq _) (by exact aftS_no m hq _) (by exact aftK_yes m hv hc.1 hc.2 _) (by exact aftV_yes m hv hc.1 hc.2 _) (by exact carry_none m hq _ _ _ _)
  · by_cases hq : t.val < 64
    · rcases Nat.mod_two_eq_zero_or_one t.val with hpar | hpar
      · have hrun := runQuant0 (F := F) c t tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) sc0 (Memref.isWhole_whole _) sc1 (Memref.isWhole_whole _) sc2 (Memref.isWhole_whole _) sc3 (Memref.isWhole_whole _) (tbl m 0) (xb m c t) (gb m c t) (wkb m c t) (wvb m c t) (skb m c t) (svb m c t) y6 y7 y8 y9 d0 d1 d2 d3 hpar hq hv
        exact at_point m c t hrun (by exact aftC_yes m hq _) (by exact aftS_yes m hq _) (by exact aftK_no m hv _) (by exact aftV_no m hv _) (by exact carry_even m hpar _ _)
      · have hrun := runQuant1 (F := F) c t tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) sc0 (Memref.isWhole_whole _) sc1 (Memref.isWhole_whole _) sc2 (Memref.isWhole_whole _) sc3 (Memref.isWhole_whole _) (tbl m 0) (xb m c t) (gb m c t) (wkb m c t) (wvb m c t) (skb m c t) (svb m c t) y6 y7 y8 y9 d0 d1 d2 d3 hpar hq hv
        exact at_point m c t hrun (by exact aftC_yes m hq _) (by exact aftS_yes m hq _) (by exact aftK_no m hv _) (by exact aftV_no m hv _) (by exact carry_odd m hpar _ _)
    · have hrun := runNone (F := F) c t tbM (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) (ms7 m t) (hs7 m t) (ms8 m t) (hs8 m t) (ms9 m t) (hs9 m t) sc0 (Memref.isWhole_whole _) sc1 (Memref.isWhole_whole _) sc2 (Memref.isWhole_whole _) sc3 (Memref.isWhole_whole _) (tbl m 0) (xb m c t) (gb m c t) (wkb m c t) (wvb m c t) (skb m c t) (svb m c t) y6 y7 y8 y9 d0 d1 d2 d3 hq hv
      exact at_point m c t hrun (by exact aftC_no m hq _) (by exact aftS_no m hq _) (by exact aftK_no m hv _) (by exact aftV_no m hv _) (by exact carry_none m hq _ _ _ _)

theorem sound_body (c : Dev nD) (t : Fin (cfgM m).N) (y6 y7 y8 y9) :
    bodyPre m c t y6 y7 y8 y9 ⊢ wp frame (wpE (defs₀ (F := F)) Variants.none c none) Set.univ (bodyAt m t) (fun _ => bodyPost m c t y6 y7 y8 y9) := by
  unfold bodyPre Φn
  iintro ⟨⟨⟨%d0, %d1, %d2, %d3, %hd, S0, S1, S2, S3⟩, Hg, HT⟩, Ho, H0, H1, H2, H3, H4, H5, H6, H7, H8, H9⟩
  iapply (sound_cases m c t hd)
  isplitl [Hg Ho]
  · isplitl [Hg]; · iexact Hg
    iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  isplitl [S3]; · iexact S3
  iexact HT

theorem body_obligation (c : Dev nD) : (rdat (F := F) m c).BodyObligation (defs₀ (F := F)) Variants.none () Set.univ := fun t Y hY => by
  rw [bigSep_W0, bigSep_W0, defs₀_row m]
  have e0 := finds_0 m c t _ (hY 0); have e1 := finds_1 m c t _ (hY 1); have e2 := finds_2 m c t _ (hY 2)
  have e3 := finds_3 m c t _ (hY 3); have e4 := finds_4 m c t _ (hY 4); have e5 := finds_5 m c t _ (hY 5)
  rw [e0, e1, e2, e3, e4, e5]
  exact triple_restated (sound_body m c t (Y 6) (Y 7) (Y 8) (Y 9)) rfl .rfl fun _ => .rfl

theorem enter (c : Dev nD) : iprop(Pipeline.ΦA spec0 c ∗ Pipeline.ΦT pre0 (tbl m) c) ⊢ (Φn m c 0 : sProp 𝕄) := by
  rw [PhiA_eq, PhiT_eq]; unfold Φn
  iintro ⟨⟨⟨⟨%d0, S0⟩, ⟨%d1, S1⟩, ⟨%d2, S2⟩, ⟨%d3, S3⟩⟩, Hg⟩, HT⟩
  isplitl [S0 S1 S2 S3]
  · iexists d0, d1, d2, d3; isplitr; · ipureintro; exact fun u hu _ => absurd hu (Nat.succ_ne_zero _)
    isplitl [S0]; · iexact S0
    isplitl [S1]; · iexact S1
    isplitl [S2]; · iexact S2
    iexact S3
  isplitl [Hg]; · iexact Hg
  iexact HT

theorem leave (c : Dev nD) (n : ℕ) : (Φn m c n : sProp 𝕄) ⊢ Pipeline.ΦA spec0 c := by
  rw [PhiA_eq]; unfold Φn
  iintro ⟨⟨%d0, %d1, %d2, %d3, %hd, S0, S1, S2, S3⟩, Hg, HT⟩
  isplitl [S0 S1 S2 S3]
  · isplitl [S0]; · iexists _; iexact S0
    isplitl [S1]; · iexists _; iexact S1
    isplitl [S2]; · iexists _; iexact S2
    iexists _; iexact S3
  iexact Hg

set_option backward.isDefEq.respectTransparency.types false in
/-- The launch: every fair execution ends, every array in the relations, every other buffer unchanged, every counter at zero. -/
theorem run_main_quiescent : θ_run defs (onTc (τ := τ) (main (F := F))) (s₀ m ρ) (fun r => (Pipeline.RDat.FramePost ((Pipeline.pin pcfgs fun _ => adm m) 0) (rdat m) (V m)) r ∧ r.2.sem = fun _ => 0) :=
  Pipeline.RDat.θ_run_frameP_track (Q' := _) pcfgs (fun _ => adm m) (0 : Fin 1) launch0 defs₀ Variants.none (rdat m) m ρ main
    (hbody := body_obligation m) (hshare := fun c => (rdat m c).share_full fun _ => rfl)
    (howed := fun _ _ => rfl) (V := V m) (hmain := hmain m Variants.none) (hA := rdat_A m) (hpf := V_pre m)
    (hin := enter m) (hout := fun c => leave m c _)

/-- The arguments' arrays after a run. -/
theorem args_kept {r : PUnit × MemSt nD τ sig (Elt F)} (h : Pipeline.RDat.FramePost ((Pipeline.pin pcfgs fun _ => adm m) 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c).2 main_arg0 (by decide : main_arg0 ∈ Pipeline.restRefs sig spec0),
    (Pipeline.RDat.FramePost.arr_in h c 0 rfl).trans (rdat_A m c 0),
    (Pipeline.RDat.FramePost.arr_in h c 1 rfl).trans (rdat_A m c 1),
    (Pipeline.RDat.FramePost.arr_in h c 2 rfl).trans (rdat_A m c 2),
    (Pipeline.RDat.FramePost.arr_in h c 3 rfl).trans (rdat_A m c 3),
    (Pipeline.RDat.FramePost.arr_in h c 4 rfl).trans (rdat_A m c 4),
    (Pipeline.RDat.FramePost.arr_in h c 5 rfl).trans (rdat_A m c 5)⟩

/-- The frame: the arguments end as they began and no semaphore is left raised. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_kept m h.1, h.2⟩) (run_main_quiescent m ρ)

end Cert.KernelIdeal.Tile

end
-- ==== Proof.Bridge.lean ====
/-
  The program and its idealization have the same text (no operation was rewritten), so what is proved of the one at every
  choice of values is proved of the other.
-/
module

public import proofs.«01_k».proof.Proof.Region
public import proofs.«01_k».proof.Proof.Gen.Kernel
public import proofs.«01_k».proof.Defs

@[expose] public section

set_option maxRecDepth 100000
set_option maxHeartbeats 4000000

noncomputable section

namespace Cert.Bridge

open Idealize.ShloMosaic

variable {F : FTy → Type} [FloatOps F] [hK : Cert.Kernel.Facts] [hI : Cert.KernelIdeal.Facts]

theorem defs₀_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

theorem defs_eq : Cert.Kernel.defs (F := F) = Cert.KernelIdeal.defs (F := F) := by
  unfold Cert.Kernel.defs Cert.KernelIdeal.defs
  rw [defs₀_eq]
  rfl

theorem main_eq : Cert.Kernel.main (F := F) = Cert.KernelIdeal.main (F := F) := by
  unfold Cert.Kernel.main Cert.KernelIdeal.main
  rfl

theorem kernel_frame : @Cert.quiescent_Kernel Cert.Kernel.Gen.facts := fun m g _ => by
  have h := Cert.KernelIdeal.Tile.frame (F := Bits) m g
  rw [← defs_eq, ← main_eq] at h
  exact h

theorem kernelIdeal_frame : @Cert.quiescent_KernelIdeal Cert.KernelIdeal.Gen.facts := fun m g _ =>
  Cert.KernelIdeal.Tile.frame (F := Ideal) m g

end Cert.Bridge

end
-- ==== Proof.Last.lean ====
/-
  The last tile a covered length reaches.
-/
module

public import proofs.«01_k».proof.Proof.Cases

@[expose] public section

set_option maxRecDepth 16384

noncomputable section

namespace Cert.KernelIdeal.Tile

/-- The last tile of a covered length within the sequence. -/
theorem lastw_at (v : BitVec 32) (h0 : 0 < v.toNat) (h1 : v.toNat ≤ 8192) : (lastw v).toNat = (v.toNat - 1) / 512 := by
  have := (by decide +kernel : ∀ n : Fin 8193, 0 < n.val → (lastw (BitVec.ofNat 32 n.val)).toNat = (n.val - 1) / 512) ⟨v.toNat, by omega⟩ h0
  simpa using this

end Cert.KernelIdeal.Tile

end
-- ==== Proof.Blocks.lean ====
/-
  Where each window's blocks lie: the block numbers at every point, and an element's place in its array.
-/
module

public import proofs.«01_k».proof.Proof.Region
public import proofs.«01_k».proof.Proof.Last
public import Idealize.ShloMosaic.Lib.Pointwise

@[expose] public section

set_option maxRecDepth 16384

noncomputable section

namespace Cert.KernelIdeal.Tile

open Cert.KernelIdeal Cert.KernelIdeal.Gen
open Idealize.ShloMosaic Idealize.ShloMosaic.TcCoe

variable {F : FTy → Type} [FloatOps F]
variable (m : (ℓ : Loc nD τ sig) → Buf (Elt F) ℓ)

/-! ## The block numbers -/

theorem tr0_at : ∀ t : Fin grid0.N, cc0_transform_0 (grid0.coords t) = ![min t.val 63 / 16, min t.val 63 % 16, 0] := by decide +kernel
theorem tr6_at : ∀ t : Fin grid0.N, cc0_transform_6 (grid0.coords t) = ![min t.val 63 / 16, min t.val 63 % 16, 0] := by decide +kernel
theorem tr1_at : ∀ t : Fin grid0.N, cc0_transform_1 (grid0.coords t) = ![0, 0] := by decide +kernel
theorem tr2_at : ∀ t : Fin grid0.N, cc0_transform_2 (grid0.coords t) = ![0, 0] := by decide +kernel
theorem tr3_at : ∀ t : Fin grid0.N, cc0_transform_3 (grid0.coords t) = ![0, 0] := by decide +kernel
theorem tr4_at : ∀ t : Fin grid0.N, cc0_transform_4 (grid0.coords t) = ![0, 0] := by decide +kernel
theorem tr5_at : ∀ t : Fin grid0.N, cc0_transform_5 (grid0.coords t) = ![0, 0] := by decide +kernel
theorem tr7_at : ∀ t : Fin grid0.N, cc0_transform_7 (grid0.coords t) = ![0, 0] := by decide +kernel

/-- The covered length of the sequence of the tile projected at point `t`. -/
def cvw (t : ℕ) : BitVec 32 := (show Vec F S4 .i32 from V m 0 main_arg0) (ix1 ⟨(t - 1) / 16 % 4, Nat.mod_lt _ (by decide)⟩)

theorem covw_at (t : Fin grid0.N) : covw (tbl m) (grid0.coords t) = cvw m t.val :=
  congrArg (V m 0 main_arg0) (by
    refine funext fun a => Fin.ext ?_
    match a with
    | ⟨0, _⟩ =>
      have ht : t.val < 65 := lt_of_lt_of_eq t.isLt N_0
      have e := congrFun (off1_at t) 0
      show k0_off1 (grid0.coords t) 0 + 1 * 0 = (t.val - 1) / 16 % 4
      rw [e]
      show (t.val - 1) / 16 + 1 * 0 = _
      omega)
theorem wd_at (c : Dev nD) (t : Fin grid0.N) : wd m c t = covw (tbl m) (grid0.coords t) := rfl

theorem tr8_at (t : Fin grid0.N) : cc0_transform_8 k0_off1_inb numel1_S1 (tbl m) (grid0.coords t) = ![(t.val - 1) / 16, jx t.val (cvw m t.val), 0] := by rw [transform_8_at, covw_at]
theorem tr9_at (t : Fin grid0.N) : cc0_transform_9 k0_off1_inb numel1_S1 (tbl m) (grid0.coords t) = ![(t.val - 1) / 16, jx t.val (cvw m t.val), 0] := by rw [transform_9_at, covw_at]

theorem index0 (t : Fin grid0.N) : ((cfgM m).win 0).index t = ![min t.val 63 / 16, min t.val 63 % 16, 0] := tr0_at t
theorem index6 (t : Fin grid0.N) : ((cfgM m).win 6).index t = ![min t.val 63 / 16, min t.val 63 % 16, 0] := tr6_at t
theorem index7 (t : Fin grid0.N) : ((cfgM m).win 7).index t = ![0, 0] := tr7_at t
theorem index8 (t : Fin grid0.N) : ((cfgM m).win 8).index t = ![(t.val - 1) / 16, jx t.val (cvw m t.val), 0] := tr8_at m t
theorem index9 (t : Fin grid0.N) : ((cfgM m).win 9).index t = ![(t.val - 1) / 16, jx t.val (cvw m t.val), 0] := tr9_at m t

/-! ## Where an element lies -/

section
variable (t : Fin grid0.N)

theorem emb_0 (t : Fin (cfgM m).N) (y : S1x512x2048.Idx) (a : Fin 3) : (((((cfgM m).win 0).blk t).view.emb y a : Fin _) : ℕ) = (![min t.val 63 / 16, 512 * (min t.val 63 % 16), 0] : Fin 3 → ℕ) a + (y a).val := by
  have e := fun a => congrFun (tr0_at t) a
  match a with
  | 0 => show cc0_transform_0 (grid0.coords t) 0 * 1 + 1 * (y 0).val = _; rw [e]; show min t.val 63 / 16 * 1 + 1 * _ = min t.val 63 / 16 + _; omega
  | 1 => show cc0_transform_0 (grid0.coords t) 1 * 512 + 1 * (y 1).val = _; rw [e]; show min t.val 63 % 16 * 512 + 1 * _ = 512 * (min t.val 63 % 16) + _; omega
  | 2 => show cc0_transform_0 (grid0.coords t) 2 * 2048 + 1 * (y 2).val = _; rw [e]; show 0 * 2048 + 1 * _ = 0 + _; omega
theorem emb_6 (t : Fin (cfgM m).N) (y : S1x512x2048.Idx) (a : Fin 3) : (((((cfgM m).win 6).blk t).view.emb y a : Fin _) : ℕ) = (![min t.val 63 / 16, 512 * (min t.val 63 % 16), 0] : Fin 3 → ℕ) a + (y a).val := by
  have e := fun a => congrFun (tr6_at t) a
  match a with
  | 0 => show cc0_transform_6 (grid0.coords t) 0 * 1 + 1 * (y 0).val = _; rw [e]; show min t.val 63 / 16 * 1 + 1 * _ = min t.val 63 / 16 + _; omega
  | 1 => show cc0_transform_6 (grid0.coords t) 1 * 512 + 1 * (y 1).val = _; rw [e]; show min t.val 63 % 16 * 512 + 1 * _ = 512 * (min t.val 63 % 16) + _; omega
  | 2 => show cc0_transform_6 (grid0.coords t) 2 * 2048 + 1 * (y 2).val = _; rw [e]; show 0 * 2048 + 1 * _ = 0 + _; omega
theorem emb_8 (t : Fin (cfgM m).N) (y : S1x512x2048.Idx) (a : Fin 3) : (((((cfgM m).win 8).blk t).view.emb y a : Fin _) : ℕ) = (![(t.val - 1) / 16, 512 * jx t.val (cvw m t.val), 0] : Fin 3 → ℕ) a + (y a).val := by
  have e := fun a => congrFun (tr8_at m t) a
  match a with
  | 0 => show cc0_transform_8 k0_off1_inb numel1_S1 (tbl m) (grid0.coords t) 0 * 1 + 1 * (y 0).val = _; rw [e]; show (t.val - 1) / 16 * 1 + 1 * _ = (t.val - 1) / 16 + _; omega
  | 1 => show cc0_transform_8 k0_off1_inb numel1_S1 (tbl m) (grid0.coords t) 1 * 512 + 1 * (y 1).val = _; rw [e]; show jx t.val (cvw m t.val) * 512 + 1 * _ = 512 * jx t.val (cvw m t.val) + _; omega
  | 2 => show cc0_transform_8 k0_off1_inb numel1_S1 (tbl m) (grid0.coords t) 2 * 2048 + 1 * (y 2).val = _; rw [e]; show 0 * 2048 + 1 * _ = 0 + _; omega
theorem emb_9 (t : Fin (cfgM m).N) (y : S1x512x2048.Idx) (a : Fin 3) : (((((cfgM m).win 9).blk t).view.emb y a : Fin _) : ℕ) = (![(t.val - 1) / 16, 512 * jx t.val (cvw m t.val), 0] : Fin 3 → ℕ) a + (y a).val := by
  have e := fun a => congrFun (tr9_at m t) a
  match a with
  | 0 => show cc0_transform_9 k0_off1_inb numel1_S1 (tbl m) (grid0.coords t) 0 * 1 + 1 * (y 0).val = _; rw [e]; show (t.val - 1) / 16 * 1 + 1 * _ = (t.val - 1) / 16 + _; omega
  | 1 => show cc0_transform_9 k0_off1_inb numel1_S1 (tbl m) (grid0.coords t) 1 * 512 + 1 * (y 1).val = _; rw [e]; show jx t.val (cvw m t.val) * 512 + 1 * _ = 512 * jx t.val (cvw m t.val) + _; omega
  | 2 => show cc0_transform_9 k0_off1_inb numel1_S1 (tbl m) (grid0.coords t) 2 * 2048 + 1 * (y 2).val = _; rw [e]; show 0 * 2048 + 1 * _ = 0 + _; omega
theorem emb_1 (t : Fin (cfgM m).N) (y : S1x2048.Idx) : (((cfgM m).win 1).blk t).view.emb y = y := by
  refine funext fun a => Fin.ext ?_
  have e := fun a => congrFun (tr1_at t) a
  match a with
  | ⟨0, _⟩ => show cc0_transform_1 (grid0.coords t) 0 * 1 + 1 * (y 0).val = (y 0).val; rw [e]; show 0 * 1 + 1 * _ = _; omega
  | ⟨1, _⟩ => show cc0_transform_1 (grid0.coords t) 1 * 2048 + 1 * (y 1).val = (y 1).val; rw [e]; show 0 * 2048 + 1 * _ = _; omega
theorem emb_2 (t : Fin (cfgM m).N) (y : S2048x2048.Idx) : (((cfgM m).win 2).blk t).view.emb y = y := by
  refine funext fun a => Fin.ext ?_
  have e := fun a => congrFun (tr2_at t) a
  match a with
  | ⟨0, _⟩ => show cc0_transform_2 (grid0.coords t) 0 * 2048 + 1 * (y 0).val = (y 0).val; rw [e]; show 0 * 2048 + 1 * _ = _; omega
  | ⟨1, _⟩ => show cc0_transform_2 (grid0.coords t) 1 * 2048 + 1 * (y 1).val = (y 1).val; rw [e]; show 0 * 2048 + 1 * _ = _; omega
theorem emb_3 (t : Fin (cfgM m).N) (y : S2048x2048.Idx) : (((cfgM m).win 3).blk t).view.emb y = y := by
  refine funext fun a => Fin.ext ?_
  have e := fun a => congrFun (tr3_at t) a
  match a with
  | ⟨0, _⟩ => show cc0_transform_3 (grid0.coords t) 0 * 2048 + 1 * (y 0).val = (y 0).val; rw [e]; show 0 * 2048 + 1 * _ = _; omega
  | ⟨1, _⟩ => show cc0_transform_3 (grid0.coords t) 1 * 2048 + 1 * (y 1).val = (y 1).val; rw [e]; show 0 * 2048 + 1 * _ = _; omega
theorem emb_4 (t : Fin (cfgM m).N) (y : S1x2048.Idx) : (((cfgM m).win 4).blk t).view.emb y = y := by
  refine funext fun a => Fin.ext ?_
  have e := fun a => congrFun (tr4_at t) a
  match a with
  | ⟨0, _⟩ => show cc0_transform_4 (grid0.coords t) 0 * 1 + 1 * (y 0).val = (y 0).val; rw [e]; show 0 * 1 + 1 * _ = _; omega
  | ⟨1, _⟩ => show cc0_transform_4 (grid0.coords t) 1 * 2048 + 1 * (y 1).val = (y 1).val; rw [e]; show 0 * 2048 + 1 * _ = _; omega
theorem emb_5 (t : Fin (cfgM m).N) (y : S1x2048.Idx) : (((cfgM m).win 5).blk t).view.emb y = y := by
  refine funext fun a => Fin.ext ?_
  have e := fun a => congrFun (tr5_at t) a
  match a with
  | ⟨0, _⟩ => show cc0_transform_5 (grid0.coords t) 0 * 1 + 1 * (y 0).val = (y 0).val; rw [e]; show 0 * 1 + 1 * _ = _; omega
  | ⟨1, _⟩ => show cc0_transform_5 (grid0.coords t) 1 * 2048 + 1 * (y 1).val = (y 1).val; rw [e]; show 0 * 2048 + 1 * _ = _; omega
theorem emb_7 (t : Fin (cfgM m).N) (y : S4x8192.Idx) : (((cfgM m).win 7).blk t).view.emb y = y := by
  refine funext fun a => Fin.ext ?_
  have e := fun a => congrFun (tr7_at t) a
  match a with
  | ⟨0, _⟩ => show cc0_transform_7 (grid0.coords t) 0 * 4 + 1 * (y 0).val = (y 0).val; rw [e]; show 0 * 4 + 1 * _ = _; omega
  | ⟨1, _⟩ => show cc0_transform_7 (grid0.coords t) 1 * 8192 + 1 * (y 1).val = (y 1).val; rw [e]; show 0 * 8192 + 1 * _ = _; omega
end

/-! ## The input blocks -/

theorem gb_eq (c : Dev nD) (t : Fin (cfgM m).N) : gb m c t = V m c main_arg2 := funext fun y => congrArg (V m c main_arg2) (emb_1 m t y)
theorem wkb_eq (c : Dev nD) (t : Fin (cfgM m).N) : wkb m c t = V m c main_arg3 := funext fun y => congrArg (V m c main_arg3) (emb_2 m t y)
theorem wvb_eq (c : Dev nD) (t : Fin (cfgM m).N) : wvb m c t = V m c main_arg4 := funext fun y => congrArg (V m c main_arg4) (emb_3 m t y)
theorem skb_eq (c : Dev nD) (t : Fin (cfgM m).N) : skb m c t = V m c main_arg5 := funext fun y => congrArg (V m c main_arg5) (emb_4 m t y)
theorem svb_eq (c : Dev nD) (t : Fin (cfgM m).N) : svb m c t = V m c main_arg6 := funext fun y => congrArg (V m c main_arg6) (emb_5 m t y)
theorem xb_apply (c : Dev nD) (t : Fin (cfgM m).N) (ht : t.val < 64) (r : Fin 512) (k : Fin 2048) :
    xb m c t (ix3 0 r k) = (show Vec F S4x8192x2048 .bf16 from V m c main_arg1) (ix3 ⟨t.val / 16, by omega⟩ ⟨512 * (t.val % 16) + r.val, by omega⟩ k) :=
  congrArg (V m c main_arg1) (by
    refine funext fun a => Fin.ext ((emb_0 m t (ix3 0 r k) a).trans ?_)
    have hm : min t.val 63 = t.val := by omega
    rw [hm]
    match a with
    | ⟨0, _⟩ => rfl
    | ⟨1, _⟩ => rfl
    | ⟨2, _⟩ => show 0 + k.val = k.val; omega)

end Cert.KernelIdeal.Tile

end
-- ==== Proof.Track.lean ====
/-
  What each output window holds from point to point, and what its array holds after the run.
-/
module

public import proofs.«01_k».proof.Proof.Blocks
public import Idealize.ShloMosaic.Lib.Pipeline.ArrRel

@[expose] public section

set_option maxRecDepth 16384

noncomputable section

namespace Cert.KernelIdeal.Tile

open Cert.KernelIdeal Cert.KernelIdeal.Gen
open Idealize.ShloMosaic Idealize.ShloMosaic.TcCoe

/-! ## When a block is written back -/

theorem flush_no {G : Pipeline.Grid} (w : Pipeline.Window sig G) (t : Fin G.N) (h : t.val + 1 < G.N) (e : w.index ⟨t.val + 1, h⟩ = w.index t) : w.flush t = false := by
  unfold Pipeline.Window.flush
  have h1 : ¬ t.val + 1 = G.N := by omega
  have h2 : ¬ ∃ h : t.val + 1 < G.N, w.index ⟨t.val + 1, h⟩ ≠ w.index t := fun ⟨_, hne⟩ => hne e
  simp [h1, h2]
theorem flush_yes {G : Pipeline.Grid} (w : Pipeline.Window sig G) (ho : w.isOut = true) (t : Fin G.N) (h : ∀ h : t.val + 1 < G.N, w.index ⟨t.val + 1, h⟩ ≠ w.index t) : w.flush t = true := by
  unfold Pipeline.Window.flush
  rw [ho, Bool.true_and, Bool.or_eq_true]
  by_cases h1 : t.val + 1 = G.N
  · exact .inl (decide_eq_true h1)
  · exact .inr (decide_eq_true ⟨by have := t.isLt; omega, h _⟩)

/-! ## The condition at a point -/

/-- The covered length is from 1 to 8192. -/
def Cov (v : BitVec 32) : Prop := 0 < v.toNat ∧ v.toNat ≤ 8192

theorem and_one : ∀ p q : BitVec 1, Scalar.andi p q = 1#1 ↔ p = 1#1 ∧ q = 1#1 := by decide
theorem aw_pos : ∀ t : Fin grid0.N, Scalar.cmpi .sgt (aw (grid0.coords t)) 0#32 = 1#1 ↔ 0 < t.val := by decide +kernel
theorem slt_iff (a v : BitVec 32) (ha : a.toNat ≤ 8192) (hv : v.toNat ≤ 8192) : Scalar.cmpi .slt a v = 1#1 ↔ a.toNat < v.toNat := by
  have h1 : a.toInt = a.toNat := by rw [BitVec.toInt_eq_toNat_cond]; split <;> omega
  have h2 : v.toInt = v.toNat := by rw [BitVec.toInt_eq_toNat_cond]; split <;> omega
  show BitVec.ofBool (a.slt v) = 1#1 ↔ _
  have h3 : a.slt v = decide (a.toNat < v.toNat) := by
    simp only [BitVec.slt, h1, h2]; congr 1; exact propext (by omega)
  rw [h3]
  by_cases h : a.toNat < v.toNat <;> simp [h]

theorem hp_iff (t : Fin grid0.N) (v : BitVec 32) (hv : Cov v) : hp (grid0.coords t) v = 1#1 ↔ 0 < t.val ∧ (t.val - 1) % 16 ≤ (lastw v).toNat := by
  have hl := lastw_at v hv.1 hv.2
  have hv1 := hv.1
  have hpw : (pw (grid0.coords t)).toNat = 512 * ((t.val - 1) % 16) := by
    rw [pw_at, BitVec.toNat_ofNat]; omega
  unfold hp
  rw [and_one, aw_pos, slt_iff _ _ (by rw [hpw]; omega) hv.2, hpw, hl]
  constructor
  · rintro ⟨h1, h2⟩; exact ⟨h1, by omega⟩
  · rintro ⟨h1, h2⟩; exact ⟨h1, by omega⟩

variable {F : FTy → Type} [FloatOps F]
variable (m : (ℓ : Loc nD τ sig) → Buf (Elt F) ℓ)

/-- A window that is written at a projecting point and kept at any other holds, after every point but the first, the tile
    its block is for. -/
theorem track {α : Type} (L : Fin grid0.N → α → Prop) (T : Fin grid0.N → α)
    (hL : ∀ t X, L t X → ∃ Y, (X = if hp (grid0.coords t) (cvw m t.val) = 1#1 then T (pv t) else Y)
      ∧ (0 < t.val → (t.val - 1 - 1) / 16 = (t.val - 1) / 16 → jx (t.val - 1) (cvw m (t.val - 1)) = jx t.val (cvw m t.val) → L (pv t) Y)) :
    ∀ (n : ℕ) (t : Fin grid0.N), t.val = n → 0 < n → Cov (cvw m n) → ∀ X, L t X → ∃ u : Fin grid0.N, u.val = 16 * ((n - 1) / 16) + jx n (cvw m n) ∧ X = T u := by
  intro n
  induction n with
  | zero => intro t ht h; exact absurd h (Nat.lt_irrefl 0)
  | succ n ih =>
    intro t ht _ hc X hX
    obtain ⟨Y, hY, hk⟩ := hL t X hX
    rw [ht] at hY hk
    have h := hp_iff t (cvw m (n + 1)) hc
    have hN : t.val < 65 := lt_of_lt_of_eq t.isLt N_0
    have hl := lastw_at _ hc.1 hc.2
    have hc2 := hc.2
    by_cases hp' : hp (grid0.coords t) (cvw m (n + 1)) = 1#1
    · rw [if_pos hp'] at hY
      have h2 := (h.1 hp').2
      refine ⟨pv t, ?_, hY⟩
      show t.val - 1 = _
      unfold jx
      rw [ht] at h2 ⊢
      rw [Nat.min_eq_left h2]
      omega
    · rw [if_neg hp'] at hY
      have h2 : (lastw (cvw m (n + 1))).toNat < n % 16 := by
        refine Nat.lt_of_not_le fun hle => hp' (h.2 ⟨by omega, ?_⟩)
        rw [ht]; exact hle
      have hn0 : 0 < n := by omega
      have hd : (n - 1) / 16 = n / 16 := by omega
      have hcv : cvw m n = cvw m (n + 1) := by
        unfold cvw
        congr 3
        show (n - 1) / 16 % 4 = (n + 1 - 1) / 16 % 4
        rw [Nat.add_sub_cancel, hd]
      have hj : jx n (cvw m n) = jx (n + 1) (cvw m (n + 1)) := by
        rw [hcv]; unfold jx
        rw [Nat.add_sub_cancel]; omega
      have hY' := hk (Nat.succ_pos n) (by rw [Nat.add_sub_cancel]; exact hd) (by rw [Nat.add_sub_cancel]; exact hj)
      obtain ⟨u, hu, e⟩ := ih (pv t) (by show t.val - 1 = n; omega) hn0 (by rw [hcv]; exact hc) Y hY'
      refine ⟨u, ?_, hY.trans e⟩
      rw [hu, hj, Nat.add_sub_cancel, hd]

/-! ## What the windows hold -/

/-- A tile's codes, its row of scales, and its products. -/
def cT (c : Dev nD) (u : Fin grid0.N) : Vec F S1x512x2048 .fp8e4m3 := codes3 (xb m c u) (V m c main_arg2)
def sT (c : Dev nD) (u : Fin grid0.N) : Vec F S1x512 .f32 := lanes (ts m c u)
def kT (c : Dev nD) (u : Fin grid0.N) : Vec F S1x512x2048 .bf16 := proj (tc m c u) (V m c main_arg3) (ts m c u) (V m c main_arg5)
def vT (c : Dev nD) (u : Fin grid0.N) : Vec F S1x512x2048 .bf16 := proj (tc m c u) (V m c main_arg4) (ts m c u) (V m c main_arg6)

/-- The tile quantised last at a point. -/
def qt (t : Fin grid0.N) : Fin grid0.N := ⟨min t.val 63, lt_of_le_of_lt (Nat.min_le_left _ _) t.isLt⟩
theorem qt_lt {t : Fin grid0.N} (h : t.val < 64) : qt t = t := Fin.ext (by show min t.val 63 = t.val; omega)

/-- Contents the body may leave in window 6 at a point. -/
def L6 (c : Dev nD) (t : Fin grid0.N) (X : Vec F S1x512x2048 .fp8e4m3) : Prop := (rdat m c).Leaves 6 t X
theorem L6_step {c : Dev nD} {t : Fin grid0.N} {X : Vec F S1x512x2048 .fp8e4m3} (h : L6 m c t X) :
    ∃ Y : Vec F S1x512x2048 .fp8e4m3, aftC m c t Y X ∧ (0 < t.val → ((cfgM m).win 6).flush (pv t) = false → L6 m c (pv t) Y) := by
  obtain ⟨Y, hF, hA⟩ := h
  refine ⟨Y, hA, fun hpos hnf => ?_⟩
  rcases ((rdat m c).finds_of_pos (w := 6) (t := t) rfl (Nat.pos_iff_ne_zero.1 hpos) Y).1 hF with hf | hl
  · rw [show ((cfgM m).win 6).flush (pv t) = true from hf] at hnf
    exact absurd hnf (by decide)
  · exact hl
/-- Contents the body may leave in window 7 at a point. -/
def L7 (c : Dev nD) (t : Fin grid0.N) (X : Vec F S4x8192 .f32) : Prop := (rdat m c).Leaves 7 t X
theorem L7_step {c : Dev nD} {t : Fin grid0.N} {X : Vec F S4x8192 .f32} (h : L7 m c t X) :
    ∃ Y : Vec F S4x8192 .f32, aftS m c t Y X ∧ (0 < t.val → ((cfgM m).win 7).flush (pv t) = false → L7 m c (pv t) Y) := by
  obtain ⟨Y, hF, hA⟩ := h
  refine ⟨Y, hA, fun hpos hnf => ?_⟩
  rcases ((rdat m c).finds_of_pos (w := 7) (t := t) rfl (Nat.pos_iff_ne_zero.1 hpos) Y).1 hF with hf | hl
  · rw [show ((cfgM m).win 7).flush (pv t) = true from hf] at hnf
    exact absurd hnf (by decide)
  · exact hl
/-- Contents the body may leave in window 8 at a point. -/
def L8 (c : Dev nD) (t : Fin grid0.N) (X : Vec F S1x512x2048 .bf16) : Prop := (rdat m c).Leaves 8 t X
theorem L8_step {c : Dev nD} {t : Fin grid0.N} {X : Vec F S1x512x2048 .bf16} (h : L8 m c t X) :
    ∃ Y : Vec F S1x512x2048 .bf16, aftK m c t Y X ∧ (0 < t.val → ((cfgM m).win 8).flush (pv t) = false → L8 m c (pv t) Y) := by
  obtain ⟨Y, hF, hA⟩ := h
  refine ⟨Y, hA, fun hpos hnf => ?_⟩
  rcases ((rdat m c).finds_of_pos (w := 8) (t := t) rfl (Nat.pos_iff_ne_zero.1 hpos) Y).1 hF with hf | hl
  · rw [show ((cfgM m).win 8).flush (pv t) = true from hf] at hnf
    exact absurd hnf (by decide)
  · exact hl
/-- Contents the body may leave in window 9 at a point. -/
def L9 (c : Dev nD) (t : Fin grid0.N) (X : Vec F S1x512x2048 .bf16) : Prop := (rdat m c).Leaves 9 t X
theorem L9_step {c : Dev nD} {t : Fin grid0.N} {X : Vec F S1x512x2048 .bf16} (h : L9 m c t X) :
    ∃ Y : Vec F S1x512x2048 .bf16, aftV m c t Y X ∧ (0 < t.val → ((cfgM m).win 9).flush (pv t) = false → L9 m c (pv t) Y) := by
  obtain ⟨Y, hF, hA⟩ := h
  refine ⟨Y, hA, fun hpos hnf => ?_⟩
  rcases ((rdat m c).finds_of_pos (w := 9) (t := t) rfl (Nat.pos_iff_ne_zero.1 hpos) Y).1 hF with hf | hl
  · rw [show ((cfgM m).win 9).flush (pv t) = true from hf] at hnf
    exact absurd hnf (by decide)
  · exact hl

theorem aftC_elim {c : Dev nD} {t : Fin grid0.N} {Y X : Vec F S1x512x2048 .fp8e4m3} (h : aftC m c t Y X) : X = if t.val < 64 then cT m c t else Y := by
  unfold aftC at h
  rw [gb_eq] at h
  exact h
theorem aftS_elim {c : Dev nD} {t : Fin grid0.N} {Y X : Vec F S4x8192 .f32} (h : aftS m c t Y X) : X = if t.val < 64 then scalesU t.val (sT m c t) Y else Y := h
theorem aftK_elim {c : Dev nD} {t : Fin grid0.N} {Y X : Vec F S1x512x2048 .bf16} (h : aftK m c t Y X) :
    X = if hp (grid0.coords t) (cvw m t.val) = 1#1 then kT m c (pv t) else Y := by
  unfold aftK at h
  rw [wd_at, covw_at, wkb_eq, skb_eq] at h
  exact h
theorem aftV_elim {c : Dev nD} {t : Fin grid0.N} {Y X : Vec F S1x512x2048 .bf16} (h : aftV m c t Y X) :
    X = if hp (grid0.coords t) (cvw m t.val) = 1#1 then vT m c (pv t) else Y := by
  unfold aftV at h
  rw [wd_at, covw_at, wvb_eq, svb_eq] at h
  exact h

theorem leaves_6 (c : Dev nD) (t : Fin grid0.N) (X) (h : L6 m c t X) : X = cT m c (qt t) := by
  have hN : t.val < 65 := lt_of_lt_of_eq t.isLt N_0
  obtain ⟨Y, hA, hk⟩ := L6_step m h
  have hA := aftC_elim m hA
  by_cases ht : t.val < 64
  · rw [if_pos ht] at hA
    rw [qt_lt ht, hA]
  · rw [if_neg ht] at hA
    have hp : qt t = pv t := Fin.ext (by show min t.val 63 = t.val - 1; omega)
    have hY := hk (by omega) (flush_no _ (pv t) (by show t.val - 1 + 1 < 65; omega) (by
        rw [index6, index6]
        have e1 : min (t.val - 1 + 1) 63 = min (t.val - 1) 63 := by omega
        show ![min (t.val - 1 + 1) 63 / 16, min (t.val - 1 + 1) 63 % 16, 0] = ![min (t.val - 1) 63 / 16, min (t.val - 1) 63 % 16, 0]
        rw [e1]))
    obtain ⟨Z, hB, _⟩ := L6_step m hY
    have hB := aftC_elim m hB
    rw [if_pos (show (pv t).val < 64 by show t.val - 1 < 64; omega)] at hB
    rw [hA, hB, hp]

theorem leaves_7 (c : Dev nD) : ∀ (n : ℕ) (t : Fin grid0.N), t.val = n → ∀ X, L7 m c t X →
    ∀ (y : S4x8192.Idx) (u : Fin grid0.N), u.val = 16 * (y 0).val + (y 1).val / 512 → u.val ≤ n → X y = sT m c u (ix2 0 ⟨(y 1).val % 512, Nat.mod_lt _ (by decide)⟩) := by
  intro n
  induction n with
  | zero =>
    intro t ht X hX y u hu hle
    obtain ⟨Y, hA, _⟩ := L7_step m hX
    have hA := aftS_elim m hA
    rw [if_pos (by omega)] at hA
    have hut : u = t := Fin.ext (by omega)
    subst hut
    rw [hA]
    exact if_pos ⟨by omega, by omega⟩
  | succ n ih =>
    intro t ht X hX y u hu hle
    have hN : t.val < 65 := lt_of_lt_of_eq t.isLt N_0
    have hy0 : (y 0).val < 4 := (y 0).isLt
    have hy1 : (y 1).val < 8192 := (y 1).isLt
    obtain ⟨Y, hA, hk⟩ := L7_step m hX
    have hA := aftS_elim m hA
    have hY := hk (by omega) (flush_no _ (pv t) (by show t.val - 1 + 1 < 65; omega) (by rw [index7, index7]))
    have hIH := ih (pv t) (by show t.val - 1 = n; omega) Y hY y u hu
    by_cases h64 : t.val < 64
    · rw [if_pos h64] at hA
      by_cases hut : u.val = n + 1
      · have hut' : u = t := Fin.ext (by omega)
        subst hut'
        rw [hA]
        exact if_pos ⟨by omega, by omega⟩
      · rw [hA]
        refine (if_neg fun hc => ?_).trans (hIH (by omega))
        have h1 := hc.1; have h2 := hc.2
        omega
    · rw [if_neg h64] at hA
      rw [hA]
      exact hIH (by omega)

theorem leaves_8 (c : Dev nD) (t : Fin grid0.N) (h0 : 0 < t.val) (hc : Cov (cvw m t.val)) (X) (h : L8 m c t X) :
    ∃ u : Fin grid0.N, u.val = 16 * ((t.val - 1) / 16) + jx t.val (cvw m t.val) ∧ X = kT m c u :=
  track m (L8 m c) (kT m c) (fun t X hX => by
    have hN : t.val < 65 := lt_of_lt_of_eq t.isLt N_0
    obtain ⟨Y, hA, hk⟩ := L8_step m hX
    refine ⟨Y, aftK_elim m hA, fun hpos e0 e1 => hk hpos (flush_no _ (pv t) (by show t.val - 1 + 1 < 65; omega) ?_)⟩
    rw [index8, index8]
    show ![(t.val - 1 + 1 - 1) / 16, jx (t.val - 1 + 1) (cvw m (t.val - 1 + 1)), 0] = ![(t.val - 1 - 1) / 16, jx (t.val - 1) (cvw m (t.val - 1)), 0]
    rw [e0, e1, Nat.sub_add_cancel hpos]) t.val t rfl h0 hc X h

theorem leaves_9 (c : Dev nD) (t : Fin grid0.N) (h0 : 0 < t.val) (hc : Cov (cvw m t.val)) (X) (h : L9 m c t X) :
    ∃ u : Fin grid0.N, u.val = 16 * ((t.val - 1) / 16) + jx t.val (cvw m t.val) ∧ X = vT m c u :=
  track m (L9 m c) (vT m c) (fun t X hX => by
    have hN : t.val < 65 := lt_of_lt_of_eq t.isLt N_0
    obtain ⟨Y, hA, hk⟩ := L9_step m hX
    refine ⟨Y, aftV_elim m hA, fun hpos e0 e1 => hk hpos (flush_no _ (pv t) (by show t.val - 1 + 1 < 65; omega) ?_)⟩
    rw [index9, index9]
    show ![(t.val - 1 + 1 - 1) / 16, jx (t.val - 1 + 1) (cvw m (t.val - 1 + 1)), 0] = ![(t.val - 1 - 1) / 16, jx (t.val - 1) (cvw m (t.val - 1)), 0]
    rw [e0, e1, Nat.sub_add_cancel hpos]) t.val t rfl h0 hc X h

end Cert.KernelIdeal.Tile

end
-- ==== Proof.Arrays.lean ====
/-
  The output arrays after the run, element by element.
-/
module

public import proofs.«01_k».proof.Proof.Track

@[expose] public section

set_option maxRecDepth 16384

noncomputable section

namespace Cert.KernelIdeal.Tile

open Cert.KernelIdeal Cert.KernelIdeal.Gen
open Idealize.ShloMosaic Idealize.ShloMosaic.TcCoe

variable {F : FTy → Type} [FloatOps F]
variable (m : (ℓ : Loc nD τ sig) → Buf (Elt F) ℓ)

/-- An element's place within its tile. -/
abbrev inTile (i : S4x8192x2048.Idx) : S1x512x2048.Idx := ix3 0 ⟨(i 1).val % 512, Nat.mod_lt _ (by decide)⟩ (i 2)

/-- The element a write-back at `t` puts at place `y` of block `(b, j)`. -/
theorem at_place (i : S4x8192x2048.Idx) (y : S1x512x2048.Idx) {b j : ℕ} (e : ∀ a : Fin 3, (i a).val = (![b, 512 * j, 0] : Fin 3 → ℕ) a + (y a).val) :
    inTile i = y ∧ (i 0).val = b ∧ (i 1).val / 512 = j := by
  have h0 := e 0; have h1 := e 1; have h2 := e 2
  have y0 : (y 0).val < 1 := (y 0).isLt
  have y1 : (y 1).val < 512 := (y 1).isLt
  have h0' : (i 0).val = b + (y 0).val := h0
  have h1' : (i 1).val = 512 * j + (y 1).val := h1
  have h2' : (i 2).val = 0 + (y 2).val := h2
  refine ⟨funext fun a => Fin.ext ?_, by omega, by omega⟩
  match a with
  | ⟨0, _⟩ => show 0 = (y 0).val; omega
  | ⟨1, _⟩ => show (i 1).val % 512 = (y 1).val; omega
  | ⟨2, _⟩ => show (i 2).val = (y 2).val; omega
/-- and every element is at its place of its block. -/
theorem place_at (i : S4x8192x2048.Idx) {b j : ℕ} (hb : (i 0).val = b) (hj : (i 1).val / 512 = j) (a : Fin 3) :
    (i a).val = (![b, 512 * j, 0] : Fin 3 → ℕ) a + (inTile i a).val := by
  match a with
  | 0 => show (i 0).val = b + 0; omega
  | 1 => show (i 1).val = 512 * j + (i 1).val % 512; omega
  | 2 => show (i 2).val = 0 + (i 2).val; omega

/-- The covered length at a point whose projected tile is of sequence `b`. -/
theorem cvw_eq {t : ℕ} {b : Fin 4} (hb : (t - 1) / 16 = b.val) : (show Vec F S4 .i32 from V m 0 main_arg0) (ix1 b) = cvw m t := by
  unfold cvw
  congr 2
  exact Fin.ext (by show b.val = (t - 1) / 16 % 4; have := b.isLt; omega)

/-- The last point that writes a covered element's block, and that it writes it back. -/
theorem last_write (i : S4x8192x2048.Idx) (hc : Cov ((show Vec F S4 .i32 from V m 0 main_arg0) (ix1 (i 0))))
    (hi : (i 1).val < ((show Vec F S4 .i32 from V m 0 main_arg0) (ix1 (i 0))).toNat) :
    ∃ t : Fin grid0.N, 0 < t.val ∧ (t.val - 1) / 16 = (i 0).val ∧ jx t.val (cvw m t.val) = (i 1).val / 512
      ∧ (t.val + 1 < 65 → (![(t.val + 1 - 1) / 16, jx (t.val + 1) (cvw m (t.val + 1)), 0] : Fin 3 → ℕ) ≠ ![(t.val - 1) / 16, jx t.val (cvw m t.val), 0]) := by
  have i0 : (i 0).val < 4 := (i 0).isLt
  have i1 : (i 1).val < 8192 := (i 1).isLt
  have hl := lastw_at _ hc.1 hc.2
  have hc2 := hc.2
  by_cases hlt : (i 1).val / 512 < (lastw ((show Vec F S4 .i32 from V m 0 main_arg0) (ix1 (i 0)))).toNat
  · have hb : (16 * (i 0).val + (i 1).val / 512 + 1 - 1) / 16 = (i 0).val := by omega
    have hb' : (16 * (i 0).val + (i 1).val / 512 + 1 + 1 - 1) / 16 = (i 0).val := by omega
    have hj : jx (16 * (i 0).val + (i 1).val / 512 + 1) (cvw m (16 * (i 0).val + (i 1).val / 512 + 1)) = (i 1).val / 512 := by
      rw [← cvw_eq m (b := i 0) hb]; unfold jx; omega
    have hj' : jx (16 * (i 0).val + (i 1).val / 512 + 1 + 1) (cvw m (16 * (i 0).val + (i 1).val / 512 + 1 + 1)) = (i 1).val / 512 + 1 := by
      rw [← cvw_eq m (b := i 0) hb']; unfold jx; omega
    refine ⟨⟨16 * (i 0).val + (i 1).val / 512 + 1, by show _ < 65; omega⟩, Nat.succ_pos _, hb, hj, fun _ he => ?_⟩
    have h1 : jx (16 * (i 0).val + (i 1).val / 512 + 1 + 1) (cvw m (16 * (i 0).val + (i 1).val / 512 + 1 + 1)) = jx (16 * (i 0).val + (i 1).val / 512 + 1) (cvw m (16 * (i 0).val + (i 1).val / 512 + 1)) := congrFun he 1
    rw [hj, hj'] at h1
    omega
  · have hb : (16 * (i 0).val + 16 - 1) / 16 = (i 0).val := by omega
    have hj : jx (16 * (i 0).val + 16) (cvw m (16 * (i 0).val + 16)) = (i 1).val / 512 := by
      rw [← cvw_eq m (b := i 0) hb]; unfold jx; omega
    refine ⟨⟨16 * (i 0).val + 16, by show _ < 65; omega⟩, Nat.succ_pos _, hb, hj, fun _ he => ?_⟩
    have h0 : (16 * (i 0).val + 16 + 1 - 1) / 16 = (16 * (i 0).val + 16 - 1) / 16 := congrFun he 0
    omega

/-- The last point. -/
def tEnd : Fin grid0.N := ⟨64, by decide⟩
theorem tEnd_last : ¬ tEnd.val + 1 < grid0.N := by decide

theorem place_7 (c : Dev nD) (t : Fin grid0.N) (ht : t.val = 64) (X) (hX : L7 m c t X) (i y : S4x8192.Idx) (e : i = y) (u : Fin grid0.N) (hu : u.val = 16 * (i 0).val + (i 1).val / 512) :
    X y = sT m c u (ix2 0 ⟨(i 1).val % 512, Nat.mod_lt _ (by decide)⟩) := by
  subst e
  have i0 : (i 0).val < 4 := (i 0).isLt
  have i1 : (i 1).val < 8192 := (i 1).isLt
  exact leaves_7 m c 64 t ht X hX i u hu (by omega)

theorem place_6 (c : Dev nD) (t : Fin grid0.N) (X) (hX : L6 m c t X) (i : S4x8192x2048.Idx) (y : S1x512x2048.Idx)
    (e : ∀ a : Fin 3, (i a).val = (![min t.val 63 / 16, 512 * (min t.val 63 % 16), 0] : Fin 3 → ℕ) a + (y a).val) (u : Fin grid0.N) (hu : u.val = 16 * (i 0).val + (i 1).val / 512) :
    X y = cT m c u (inTile i) := by
  have hp := at_place i y e
  have ht' : t.val < 65 := lt_of_lt_of_eq t.isLt N_0
  have hut : u = qt t := Fin.ext (by rw [hu, hp.2.1, hp.2.2]; show _ = min t.val 63; omega)
  rw [hp.1, hut, leaves_6 m c t X hX]
theorem place_8 (c : Dev nD) (t : Fin grid0.N) (h0 : 0 < t.val) (X) (hX : L8 m c t X) (i : S4x8192x2048.Idx) (y : S1x512x2048.Idx)
    (e : ∀ a : Fin 3, (i a).val = (![(t.val - 1) / 16, 512 * jx t.val (cvw m t.val), 0] : Fin 3 → ℕ) a + (y a).val) (u : Fin grid0.N) (hu : u.val = 16 * (i 0).val + (i 1).val / 512)
    (hc : Cov ((show Vec F S4 .i32 from V m 0 main_arg0) (ix1 (i 0)))) : X y = kT m c u (inTile i) := by
  have hp := at_place i y e
  rw [cvw_eq m (t := t.val) (b := i 0) hp.2.1.symm] at hc
  obtain ⟨u', hu', hX⟩ := leaves_8 m c t h0 hc X hX
  have hut : u = u' := Fin.ext (by rw [hu, hp.2.1, hp.2.2, hu'])
  rw [hp.1, hut, hX]
theorem place_9 (c : Dev nD) (t : Fin grid0.N) (h0 : 0 < t.val) (X) (hX : L9 m c t X) (i : S4x8192x2048.Idx) (y : S1x512x2048.Idx)
    (e : ∀ a : Fin 3, (i a).val = (![(t.val - 1) / 16, 512 * jx t.val (cvw m t.val), 0] : Fin 3 → ℕ) a + (y a).val) (u : Fin grid0.N) (hu : u.val = 16 * (i 0).val + (i 1).val / 512)
    (hc : Cov ((show Vec F S4 .i32 from V m 0 main_arg0) (ix1 (i 0)))) : X y = vT m c u (inTile i) := by
  have hp := at_place i y e
  rw [cvw_eq m (t := t.val) (b := i 0) hp.2.1.symm] at hc
  obtain ⟨u', hu', hX⟩ := leaves_9 m c t h0 hc X hX
  have hut : u = u' := Fin.ext (by rw [hu, hp.2.1, hp.2.2, hu'])
  rw [hp.1, hut, hX]

section
variable {r : PUnit × MemSt nD τ sig (Elt F)} (h : Pipeline.RDat.FramePost ((Pipeline.pin pcfgs fun _ => adm m) 0) (rdat m) (V m) r) (c : Dev nD)
include h

/-- The codes. -/
theorem codes_at (i : S4x8192x2048.Idx) (u : Fin grid0.N) (hu : u.val = 16 * (i 0).val + (i 1).val / 512) :
    (show Vec F S4x8192x2048 .fp8e4m3 from r.2.mem ((c.tc : Thread nD τ).loc main_v0_0)) i = cT m c u (inTile i) := by
  obtain ⟨after, hL, hA⟩ := Pipeline.RDat.FramePost.exists_exact h c
  have i0 : (i 0).val < 4 := (i 0).isLt
  have i1 : (i 1).val < 8192 := (i 1).isLt
  have e6 := hA 6
  refine (congrFun e6 i).trans ?_
  let t : Fin (cfgM m).N := if u.val < 63 then u else tEnd
  have ht : min t.val 63 = u.val := by
    by_cases hc : u.val < 63
    · have : t = u := if_pos hc
      rw [this]; omega
    · have : t = tEnd := if_neg hc
      rw [this]; show min 64 63 = _; omega
  have hflush : ((cfgM m).win 6).flush t = true := flush_yes _ rfl t fun hlt => by
    have hlt' : t.val + 1 < 65 := hlt
    rw [index6, index6]
    intro he
    have h0 : min (t.val + 1) 63 / 16 = min t.val 63 / 16 := congrFun he 0
    have h1 : min (t.val + 1) 63 % 16 = min t.val 63 % 16 := congrFun he 1
    by_cases hc : u.val < 63
    · have : t = u := if_pos hc
      have : t.val = u.val := congrArg Fin.val this
      omega
    · have : t = tEnd := if_neg hc
      have : t.val = 64 := congrArg Fin.val this
      omega
  refine Pipeline.Dat.arrAt_forall_of_flushed ((rdat m c).withAfter after) (6 : Fin 10)
    (fun (i : S4x8192x2048.Idx) (v : Elt F .fp8e4m3) => ∀ u : Fin grid0.N, u.val = 16 * (i 0).val + (i 1).val / 512 → v = cT m c u (inTile i))
    (fun t hf y => ?_) (cfgM m).N t i t.isLt hflush ?_ u hu
  · intro u hu
    exact place_6 m c t (after 6 t) (hL 6 t hf) ((((cfgM m).win 6).blk t).view.emb y) y (emb_6 m t y) u hu
  · have := ((((cfgM m).win 6).blk t).view).emb_mem_set (inTile i)
    have e : (((cfgM m).win 6).blk t).view.emb (inTile i) = i := funext fun a => Fin.ext ((emb_6 m t (inTile i) a).trans
      (place_at i (b := min t.val 63 / 16) (j := min t.val 63 % 16) (by omega) (by omega) a).symm)
    rwa [e] at this

/-- The scales. -/
theorem scales_at (i : S4x8192.Idx) (u : Fin grid0.N) (hu : u.val = 16 * (i 0).val + (i 1).val / 512) :
    (show Vec F S4x8192 .f32 from r.2.mem ((c.tc : Thread nD τ).loc main_v0_1)) i = sT m c u (ix2 0 ⟨(i 1).val % 512, Nat.mod_lt _ (by decide)⟩) := by
  obtain ⟨after, hL, hA⟩ := Pipeline.RDat.FramePost.exists_exact h c
  have e7 := hA 7
  refine (congrFun e7 i).trans ?_
  refine Pipeline.Dat.arrAt_forall_of_flushed ((rdat m c).withAfter after) (7 : Fin 10)
    (fun (i : S4x8192.Idx) (v : Elt F .f32) => ∀ u : Fin grid0.N, u.val = 16 * (i 0).val + (i 1).val / 512 → v = sT m c u (ix2 0 ⟨(i 1).val % 512, Nat.mod_lt _ (by decide)⟩))
    (fun t hf y => ?_) (cfgM m).N tEnd i tEnd.isLt (flush_yes _ rfl _ fun hlt => absurd hlt tEnd_last) ?_ u hu
  · intro u hu
    have ht' : t.val < 65 := lt_of_lt_of_eq t.isLt N_0
    have ht : t.val = 64 := by
      by_contra hne
      have hn : ((cfgM m).win 7).flush t = false := flush_no _ t (by show t.val + 1 < 65; omega) (by rw [index7, index7])
      rw [show ((cfgM m).win 7).flush t = true from hf] at hn
      exact absurd hn (by decide)
    exact place_7 m c t ht (after 7 t) (hL 7 t hf) ((((cfgM m).win 7).blk t).view.emb y) y (emb_7 m t y) u hu
  · have := ((((cfgM m).win 7).blk tEnd).view).emb_mem_set i
    rwa [emb_7 m _ i] at this

/-- The keys at covered bytes. -/
theorem keys_at (i : S4x8192x2048.Idx) (u : Fin grid0.N) (hu : u.val = 16 * (i 0).val + (i 1).val / 512)
    (hc : Cov ((show Vec F S4 .i32 from V m 0 main_arg0) (ix1 (i 0)))) (hi : (i 1).val < ((show Vec F S4 .i32 from V m 0 main_arg0) (ix1 (i 0))).toNat) :
    (show Vec F S4x8192x2048 .bf16 from r.2.mem ((c.tc : Thread nD τ).loc main_v0_2)) i = kT m c u (inTile i) := by
  obtain ⟨after, hL, hA⟩ := Pipeline.RDat.FramePost.exists_exact h c
  have i0 : (i 0).val < 4 := (i 0).isLt
  have i1 : (i 1).val < 8192 := (i 1).isLt
  have e8 := hA 8
  refine (congrFun e8 i).trans ?_
  obtain ⟨t, ht0, hb, hj, hflush⟩ := last_write m i hc hi
  refine Pipeline.Dat.arrAt_forall_of_flushed ((rdat m c).withAfter after) (8 : Fin 10)
    (fun (i : S4x8192x2048.Idx) (v : Elt F .bf16) => ∀ u : Fin grid0.N, u.val = 16 * (i 0).val + (i 1).val / 512
      → Cov ((show Vec F S4 .i32 from V m 0 main_arg0) (ix1 (i 0))) → v = kT m c u (inTile i))
    (fun t hf y => ?_) (cfgM m).N t i t.isLt (flush_yes _ rfl t fun hlt he => by
      rw [index8, index8] at he
      exact hflush hlt he) ?_ u hu hc
  · intro u hu hc
    have ht' : t.val < 65 := lt_of_lt_of_eq t.isLt N_0
    have ht0 : 0 < t.val := by
      by_contra h0
      have h0' : t.val = 0 := by omega
      have hn : ((cfgM m).win 8).flush t = false := flush_no _ t (by show t.val + 1 < 65; omega) (by
        rw [index8, index8]
        show ![(t.val + 1 - 1) / 16, jx (t.val + 1) (cvw m (t.val + 1)), 0] = ![(t.val - 1) / 16, jx t.val (cvw m t.val), 0]
        rw [h0']; rfl)
      rw [show ((cfgM m).win 8).flush t = true from hf] at hn
      exact absurd hn (by decide)
    exact place_8 m c t ht0 (after 8 t) (hL 8 t hf) ((((cfgM m).win 8).blk t).view.emb y) y (emb_8 m t y) u hu hc
  · have := ((((cfgM m).win 8).blk t).view).emb_mem_set (inTile i)
    have e : (((cfgM m).win 8).blk t).view.emb (inTile i) = i := funext fun a => Fin.ext ((emb_8 m t (inTile i) a).trans
      (place_at i hb.symm hj.symm a).symm)
    rwa [e] at this

/-- The values at covered bytes. -/
theorem vals_at (i : S4x8192x2048.Idx) (u : Fin grid0.N) (hu : u.val = 16 * (i 0).val + (i 1).val / 512)
    (hc : Cov ((show Vec F S4 .i32 from V m 0 main_arg0) (ix1 (i 0)))) (hi : (i 1).val < ((show Vec F S4 .i32 from V m 0 main_arg0) (ix1 (i 0))).toNat) :
    (show Vec F S4x8192x2048 .bf16 from r.2.mem ((c.tc : Thread nD τ).loc main_v0_3)) i = vT m c u (inTile i) := by
  obtain ⟨after, hL, hA⟩ := Pipeline.RDat.FramePost.exists_exact h c
  have i0 : (i 0).val < 4 := (i 0).isLt
  have i1 : (i 1).val < 8192 := (i 1).isLt
  have e9 := hA 9
  refine (congrFun e9 i).trans ?_
  obtain ⟨t, ht0, hb, hj, hflush⟩ := last_write m i hc hi
  refine Pipeline.Dat.arrAt_forall_of_flushed ((rdat m c).withAfter after) (9 : Fin 10)
    (fun (i : S4x8192x2048.Idx) (v : Elt F .bf16) => ∀ u : Fin grid0.N, u.val = 16 * (i 0).val + (i 1).val / 512
      → Cov ((show Vec F S4 .i32 from V m 0 main_arg0) (ix1 (i 0))) → v = vT m c u (inTile i))
    (fun t hf y => ?_) (cfgM m).N t i t.isLt (flush_yes _ rfl t fun hlt he => by
      rw [index9, index9] at he
      exact hflush hlt he) ?_ u hu hc
  · intro u hu hc
    have ht' : t.val < 65 := lt_of_lt_of_eq t.isLt N_0
    have ht0 : 0 < t.val := by
      by_contra h0
      have h0' : t.val = 0 := by omega
      have hn : ((cfgM m).win 9).flush t = false := flush_no _ t (by show t.val + 1 < 65; omega) (by
        rw [index9, index9]
        show ![(t.val + 1 - 1) / 16, jx (t.val + 1) (cvw m (t.val + 1)), 0] = ![(t.val - 1) / 16, jx t.val (cvw m t.val), 0]
        rw [h0']; rfl)
      rw [show ((cfgM m).win 9).flush t = true from hf] at hn
      exact absurd hn (by decide)
    exact place_9 m c t ht0 (after 9 t) (hL 9 t hf) ((((cfgM m).win 9).blk t).view.emb y) y (emb_9 m t y) u hu hc
  · have := ((((cfgM m).win 9).blk t).view).emb_mem_set (inTile i)
    have e : (((cfgM m).win 9).blk t).view.emb (inTile i) = i := funext fun a => Fin.ext ((emb_9 m t (inTile i) a).trans
      (place_at i hb.symm hj.symm a).symm)
    rwa [e] at this
end

end Cert.KernelIdeal.Tile

end
-- ==== Proof.Rows.lean ====
/-
  What the reference computes for one row of the hidden states: the row's quantised codes and its scale, and one
  entry of the row's product with a weight matrix; and the reading of the reference's results by them.
-/
module

public import proofs.«01_k».proof.Proof.Gen.ReferenceIdeal.Skeleton
public import Idealize.ShloMosaic.Lib.Pointwise

@[expose] public section

set_option maxRecDepth 16384

noncomputable section

namespace Cert.Rows

open Idealize.ShloMosaic Cert.ReferenceIdeal Cert.ReferenceIdeal.Gen

/-- The reciprocal of the root mean square of a row. -/
def rinv (u : Fin 2048 → EReal) : EReal :=
  Ideal.rsqrt (Ideal.div (∑ k, u k * u k) (Ideal.ofBits .f32 0x45000000#32) + Ideal.ofBits .f32 0x358637BD#32)
/-- The greatest magnitude of the normalised row. -/
def amax (u g : Fin 2048 → EReal) : EReal :=
  Finset.univ.fold max (Ideal.ofBits .f32 0xFF800000#32) fun k => FloatOps.absf (F := Ideal) (φ := .f32) (g k * u k * rinv u)
/-- The exponent of a power of two above `t`, and zero where `a` is zero. -/
def expo (a t : EReal) : EReal :=
  if a = 0 then 0 else Ideal.liftRound Int.floor (Ideal.div (Ideal.log t) (Ideal.log (Ideal.ofBits .f32 0x40000000#32))) + 1
/-- The exponent of the row's scale. -/
def rowE (u g : Fin 2048 → EReal) : EReal := expo (amax u g) (amax u g * Ideal.ofBits .f32 0x3B124925#32)
/-- The row's scale. -/
def rowS (u g : Fin 2048 → EReal) : EReal := Ideal.exp2 (rowE u g)
/-- The row's codes. -/
def rowC (u g : Fin 2048 → EReal) (d : Fin 2048) : EReal :=
  min (Ideal.ofBits .f32 0x43E00000#32) (max (Ideal.ofBits .f32 0xC3E00000#32) (g d * u d * rinv u * Ideal.exp2 (0 - rowE u g)))
/-- One entry of the row's product with a weight matrix. -/
def rowP (u g : Fin 2048 → EReal) (w : Fin 2048 → EReal) (s : EReal) : EReal :=
  (∑ k, rowC u g k * w k) * rowS u g * s

theorem lift3 (b : Fin 4) (s : Fin 8192) (k : Fin 2048) : (reduces_S4x8192x2048_S4x8192 : Shape.Reduces S4x8192x2048 [2] S4x8192).lift (ix2 b s) k = ix3 b s k := by
  funext a; match a with | 0 => rfl | 1 => rfl | 2 => rfl

theorem sum_at (v : FVec Ideal S4x8192x2048 .f32) (b : Fin 4) (s : Fin 8192) :
    multiReduction .add [2] S4x8192 v 0x00000000#32 reduces_S4x8192x2048_S4x8192 (.inl rfl) rfl (ix2 b s) = ∑ k : Fin 2048, v (ix3 b s k) := by
  refine (Ideal.multiReduction_add_single _ _ _ _ _ _).trans ?_
  exact Finset.sum_congr rfl fun k _ => congrArg v (lift3 b s k)

theorem max_at (v : FVec Ideal S4x8192x2048 .f32) (b : Fin 4) (s : Fin 8192) :
    multiReduction .maximumf [2] S4x8192 v 0xFF800000#32 reduces_S4x8192x2048_S4x8192 (.inl rfl) rfl (ix2 b s) = Finset.univ.fold max (Ideal.ofBits .f32 0xFF800000#32) (fun k : Fin 2048 => v (ix3 b s k)) := by
  refine (Ideal.multiReduction_maximumf_single _ _ _ _ _ _).trans ?_
  exact congrArg (fun f => Finset.univ.fold max (Ideal.ofBits .f32 0xFF800000#32) f) (funext fun k => congrArg v (lift3 b s k))

variable (x : Vec Ideal S4x8192x2048 .bf16) (g : Vec Ideal S1x2048 .f32) (b : Fin 4) (s : Fin 8192) (d : Fin 2048)

/-- Row `(b, s)` of the hidden states. -/
abbrev rowX : Fin 2048 → EReal := fun k => x (ix3 b s k)
/-- The norm's weights. -/
abbrev rowG : Fin 2048 → EReal := fun k => g (ix2 0 k)

/-- The normalised rows, of the rows' sums of squares. -/
def normOf (v7 : FVec Ideal S4x8192 .f32) : FVec Ideal S4x8192x2048 .f32 :=
  mulf (mulf (broadcastTo S4x8192x2048 (shapeCast S1x1x2048 g shapeCasts_S1x2048_S1x1x2048) broadcasts_S1x1x2048_S4x8192x2048) (extf .f32 x bitsLt_bf16_f32))
    (broadcastTo S4x8192x2048 (rsqrt (addf (divf (shapeCast S4x8192x1 v7 shapeCasts_S4x8192_S4x8192x1) (broadcast S4x8192x1 (Scalar.ofBits .f32 0x45000000#32)))
      (broadcast S4x8192x1 (Scalar.ofBits .f32 0x358637BD#32)))) broadcasts_S4x8192x1_S4x8192x2048)
/-- The exponents, of the rows' greatest magnitudes. -/
def expOf (v17 : FVec Ideal S4x8192 .f32) : FVec Ideal S4x8192 .f32 :=
  select (cmpf .oeq v17 (broadcast S4x8192 (Scalar.ofBits .f32 0x00000000#32))) (broadcast S4x8192 (Scalar.ofBits .f32 0x00000000#32))
    (addf (floor (divf (log (mulf v17 (broadcast S4x8192 (Scalar.ofBits .f32 0x3B124925#32)))) (log (broadcast S4x8192 (Scalar.ofBits .f32 0x40000000#32)))))
      (broadcast S4x8192 (Scalar.ofBits .f32 0x3F800000#32)))

theorem normOf_apply (v7 : FVec Ideal S4x8192 .f32) : normOf x g v7 (ix3 b s d)
    = g (ix2 0 d) * x (ix3 b s d) * Ideal.rsqrt (Ideal.div (v7 (ix2 b s)) (Ideal.ofBits .f32 0x45000000#32) + Ideal.ofBits .f32 0x358637BD#32) := by
  pointwise [normOf]

theorem expOf_apply (v17 : FVec Ideal S4x8192 .f32) : expOf v17 (ix2 b s) = expo (v17 (ix2 b s)) (v17 (ix2 b s) * Ideal.ofBits .f32 0x3B124925#32) := by
  unfold expo
  pointwise [expOf]

theorem pay3_eq : k0_pay3 x g = normOf x g (multiReduction .add [2] S4x8192 (mulf (extf .f32 x bitsLt_bf16_f32) (extf .f32 x bitsLt_bf16_f32)) 0x00000000#32 reduces_S4x8192x2048_S4x8192 (.inl rfl) rfl) := rfl
theorem pay4_eq : k0_pay4 x g = expOf (multiReduction .maximumf [2] S4x8192 (absf (k0_pay3 x g)) 0xFF800000#32 reduces_S4x8192x2048_S4x8192 (.inl rfl) rfl) := rfl

theorem pay3_apply : k0_pay3 x g (ix3 b s d) = g (ix2 0 d) * x (ix3 b s d) * rinv (rowX x b s) := by
  rw [pay3_eq, normOf_apply, sum_at]
  rfl

theorem pay4_apply : k0_pay4 x g (ix2 b s) = rowE (rowX x b s) (rowG g) := by
  rw [pay4_eq, expOf_apply, max_at]
  unfold rowE amax
  have h : (fun k : Fin 2048 => absf (k0_pay3 x g) (ix3 b s k)) = fun k => FloatOps.absf (F := Ideal) (φ := .f32) (rowG g k * rowX x b s k * rinv (rowX x b s)) :=
    funext fun k => congrArg (FloatOps.absf (F := Ideal) (φ := .f32)) (pay3_apply x g b s k)
  rw [h]

/-- The scales, of the exponents. -/
def scalesOf (v30 : FVec Ideal S4x8192 .f32) : FVec Ideal S4x8192 .f32 := exp2 v30
/-- The codes, of the normalised rows and the exponents. -/
def codesOf (v15 : FVec Ideal S4x8192x2048 .f32) (v30 : FVec Ideal S4x8192 .f32) : FVec Ideal S4x8192x2048 .fp8e4m3 :=
  truncf .fp8e4m3 (minimumf (broadcast S4x8192x2048 (Scalar.ofBits .f32 0x43E00000#32)) (maximumf (broadcast S4x8192x2048 (Scalar.ofBits .f32 0xC3E00000#32))
    (mulf v15 (broadcastTo S4x8192x2048 (shapeCast S4x8192x1 (exp2 (subf (broadcast S4x8192 (Scalar.ofBits .f32 0x00000000#32)) v30)) shapeCasts_S4x8192_S4x8192x1) broadcasts_S4x8192x1_S4x8192x2048)))) bitsLt_fp8e4m3_f32

theorem scalesOf_apply (v30 : FVec Ideal S4x8192 .f32) : scalesOf v30 (ix2 b s) = Ideal.exp2 (v30 (ix2 b s)) := rfl
theorem codesOf_apply (v15 : FVec Ideal S4x8192x2048 .f32) (v30 : FVec Ideal S4x8192 .f32) : codesOf v15 v30 (ix3 b s d)
    = min (Ideal.ofBits .f32 0x43E00000#32) (max (Ideal.ofBits .f32 0xC3E00000#32) (v15 (ix3 b s d) * Ideal.exp2 (0 - v30 (ix2 b s)))) := by
  pointwise [codesOf]
  rfl

theorem pay5_eq : k0_pay5 x g = scalesOf (k0_pay4 x g) := rfl
theorem pay6_eq : k0_pay6 x g = codesOf (k0_pay3 x g) (k0_pay4 x g) := rfl

/-- THE SCALES. -/
theorem pay5_apply : k0_pay5 x g (ix2 b s) = rowS (rowX x b s) (rowG g) := by
  rw [pay5_eq, scalesOf_apply, pay4_apply, rowS]

/-- THE CODES. -/
theorem pay6_apply : k0_pay6 x g (ix3 b s d) = rowC (rowX x b s) (rowG g) d := by
  rw [pay6_eq, codesOf_apply, pay3_apply, pay4_apply, rowC]

/-- A PRODUCT. -/
theorem pay1_apply (r : FVec Ideal S4x8192 .f32) (cd : FVec Ideal S4x8192x2048 .fp8e4m3) (w : Vec Ideal S2048x2048 .fp8e4m3) (sw : Vec Ideal S1x2048 .f32) :
    k0_pay1 r cd w sw (ix3 b s d) = (∑ k : Fin 2048, cd (ix3 b s k) * w (ix2 k d)) * r (ix2 b s) * sw (ix2 0 d) := by
  pointwise [k0_pay1]

theorem pay2_eq (r : FVec Ideal S4x8192 .f32) (cd : FVec Ideal S4x8192x2048 .fp8e4m3) (w : Vec Ideal S2048x2048 .fp8e4m3) (sw : Vec Ideal S1x2048 .f32) :
    k0_pay2 r cd w sw = k0_pay1 r cd w sw := rfl

end Cert.Rows

end
-- ==== Proof.TileRows.lean ====
/-
  What the kernel computes for a tile, row by row: its codes, scales and products are the reference's functions of
  the tile's rows.
-/
module

public import proofs.«01_k».proof.Proof.Vals
public import proofs.«01_k».proof.Proof.Rows
public import Idealize.ShloMosaic.Lib.Pointwise

@[expose] public section

set_option maxRecDepth 16384

noncomputable section

namespace Cert.KernelIdeal.Tile

open Idealize.ShloMosaic Cert.KernelIdeal Cert.KernelIdeal.Gen Cert.Rows

/-! ## The greatest magnitude may be normalised after it is taken -/

theorem neg_inf : Ideal.ofBits .f32 0xFF800000#32 = (⊥ : EReal) := by simp [Ideal.ofBits, Ideal.ieee]
theorem count_eq : Ideal.ofBits .f32 0x45000000#32 = ((2048 : ℝ) : EReal) := by
  simp [Ideal.ofBits, Ideal.ieee, -EReal.coe_mul]; norm_num
theorem eps_nonneg : (0 : EReal) ≤ Ideal.ofBits .f32 0x358637BD#32 := by
  simp [Ideal.ofBits, Ideal.ieee, -EReal.coe_mul]
theorem recip_ne : Ideal.ofBits .f32 0x3B124925#32 ≠ (0 : EReal) := by
  simp [Ideal.ofBits, Ideal.ieee, -EReal.coe_mul]

theorem sq_nonneg' (x : EReal) : 0 ≤ x * x := by
  rcases le_total 0 x with h | h
  · exact mul_nonneg h h
  · have := mul_nonneg (EReal.neg_nonneg.2 h) (EReal.neg_nonneg.2 h)
    rwa [neg_mul_neg] at this

theorem rsqrt_nonneg {y : EReal} (h : 0 ≤ y) : 0 ≤ Ideal.rsqrt y := by
  induction y with
  | bot => exact absurd h (by simp)
  | top => exact le_rfl
  | coe r =>
    have hr : ¬ r < 0 := not_lt.2 (EReal.coe_nonneg.1 h)
    show 0 ≤ (if r < 0 then ⊥ else if r = 0 then ⊤ else (((Real.sqrt r)⁻¹ : ℝ) : EReal))
    rw [if_neg hr]
    split
    · exact le_top
    · exact EReal.coe_nonneg.2 (inv_nonneg.2 (Real.sqrt_nonneg r))

theorem rinv_nonneg (u : Fin 2048 → EReal) : 0 ≤ rinv u := by
  refine rsqrt_nonneg (add_nonneg ?_ eps_nonneg)
  rw [count_eq, Ideal.div_coe (by norm_num)]
  exact mul_nonneg (Finset.sum_nonneg fun k _ => sq_nonneg' _) (EReal.coe_nonneg.2 (by norm_num))

theorem absf_mul (y : EReal) {r : EReal} (hr : 0 ≤ r) : FloatOps.absf (F := Ideal) (φ := .f32) (y * r) = FloatOps.absf (F := Ideal) (φ := .f32) y * r := by
  show max (y * r) (-(y * r)) = max y (-y) * r
  have hm : Monotone fun z : EReal => z * r := fun a b h => mul_le_mul_of_nonneg_right h hr
  rw [hm.map_max (a := y) (b := -y), EReal.neg_mul]

theorem absf_nonneg (y : EReal) : (0 : EReal) ≤ FloatOps.absf (F := Ideal) (φ := .f32) y := by
  show 0 ≤ max y (-y)
  rcases le_total 0 y with h | h
  · exact le_max_of_le_left h
  · exact le_max_of_le_right (EReal.neg_nonneg.2 h)

/-- The greatest magnitude of the row, normalised. -/
theorem amax_eq (u g : Fin 2048 → EReal) :
    (Finset.univ.fold max (Ideal.ofBits .f32 0xFF800000#32) fun k => FloatOps.absf (F := Ideal) (φ := .f32) (g k * u k)) * rinv u = amax u g := by
  have hr := rinv_nonneg u
  have hm : Monotone fun z : EReal => z * rinv u := fun a b h => mul_le_mul_of_nonneg_right h hr
  unfold amax
  rw [neg_inf]
  have e := Finset.fold_hom (op := max) (op' := max) (s := (Finset.univ : Finset (Fin 2048))) (b := (⊥ : EReal)) (f := fun k => FloatOps.absf (F := Ideal) (φ := .f32) (g k * u k)) (m := fun z : EReal => z * rinv u) fun a b => hm.map_max
  refine e.symm.trans ?_
  simp only [absf_mul _ hr]
  set F : Fin 2048 → EReal := fun k => FloatOps.absf (F := Ideal) (φ := .f32) (g k * u k) * rinv u with hF
  refine le_antisymm (Finset.fold_max_le _ |>.2 ⟨?_, fun k hk => (Finset.le_fold_max _).2 (.inr ⟨k, hk, le_rfl⟩)⟩) (Finset.fold_max_le _ |>.2 ⟨bot_le, fun k hk => (Finset.le_fold_max _).2 (.inr ⟨k, hk, le_rfl⟩)⟩)
  refine (Finset.le_fold_max _).2 (.inr ⟨0, Finset.mem_univ _, ?_⟩)
  refine le_trans ?_ (mul_nonneg (absf_nonneg _) hr)
  have := hm (bot_le : (⊥ : EReal) ≤ 0)
  simpa using this

/-- The exponent's two spellings. -/
theorem expo_eq (a : EReal) : expo (a * Ideal.ofBits .f32 0x3B124925#32) (a * Ideal.ofBits .f32 0x3B124925#32) = expo a (a * Ideal.ofBits .f32 0x3B124925#32) := by
  unfold expo
  simp only [mul_eq_zero, recip_ne, or_false]

/-! ## 32 rows -/

section
variable (x : Vec Ideal S1x32x2048 .bf16) (g : Vec Ideal S1x2048 .f32) (r : Fin 32) (d : Fin 2048) (l : Fin 128)

theorem pay6_apply : k0_pay6 x (ix2 r 0) = rinv fun k => x (ix3 0 r k) := by
  unfold rinv
  pointwise [k0_pay6, k0_pay4]

theorem pay7_apply : k0_pay7 x g (ix2 r 0) = amax (fun k => x (ix3 0 r k)) fun k => g (ix2 0 k) := by
  rw [← amax_eq]
  unfold rinv
  pointwise [k0_pay7, k0_pay6, k0_pay5, k0_pay4]

theorem pay13_apply (v : FVec Ideal S32x1 .f32) : k0_pay13 v (ix2 r 0) = expo (v (ix2 r 0)) (v (ix2 r 0) * Ideal.ofBits .f32 0x3B124925#32) := by
  rw [← expo_eq]
  unfold expo
  pointwise [k0_pay13]

theorem pay14_apply (v179 : FVec Ideal S32x2048 .f32) (v187 v191 : FVec Ideal S32x1 .f32) : k0_pay14 v179 v187 v191 (ix2 r d)
    = min (Ideal.ofBits .f32 0x43E00000#32) (max (Ideal.ofBits .f32 0xC3E00000#32) (v179 (ix2 r d) * (v187 (ix2 r 0) * Ideal.exp2 (0 - k0_pay13 v191 (ix2 r 0))))) := by
  pointwise [k0_pay14]
  rfl

theorem pay5_apply : k0_pay5 x g (ix2 r d) = g (ix2 0 d) * x (ix3 0 r d) := by
  pointwise [k0_pay5, k0_pay4]

theorem pay14_row : k0_pay14 (k0_pay5 x g) (k0_pay6 x) (k0_pay7 x g) (ix2 r d) = rowC (fun k => x (ix3 0 r k)) (fun k => g (ix2 0 k)) d := by
  rw [pay14_apply, pay5_apply, pay6_apply, pay13_apply, pay7_apply, rowC, rowE, mul_assoc (g (ix2 0 d) * x (ix3 0 r d))]

theorem rowCodes_apply : rowCodes x g (ix2 r d) = rowC (fun k => x (ix3 0 r k)) (fun k => g (ix2 0 k)) d := by
  rw [← pay14_row]
  pointwise [rowCodes, k0_pay16]

theorem rowCodes3_apply : rowCodes3 x g (ix3 0 r d) = rowC (fun k => x (ix3 0 r k)) (fun k => g (ix2 0 k)) d := by
  rw [← pay14_row]
  pointwise [rowCodes3, k0_pay15]

theorem rowScales_apply : rowScales x g (ix2 r l) = rowS (fun k => x (ix3 0 r k)) (fun k => g (ix2 0 k)) := by
  have h : rowScales x g (ix2 r l) = Ideal.exp2 (k0_pay13 (k0_pay7 x g) (ix2 r 0)) := by
    pointwise [rowScales, k0_pay17]
    rfl
  rw [h, pay13_apply, pay7_apply, rowS, rowE]
end

/-! ## A tile -/

section
variable (X : Vec Ideal S1x512x2048 .bf16) (g : Vec Ideal S1x2048 .f32) (r : Fin 512) (d : Fin 2048) (l : Fin 128)

theorem xRows_row : (fun k : Fin 2048 => xRows X (r.val / 32) (ix3 0 ⟨r.val % 32, Nat.mod_lt _ (by decide)⟩ k)) = fun k => X (ix3 0 r k) :=
  funext fun k => congrArg X (by
    refine funext fun a => Fin.ext ?_
    match a with
    | 0 => rfl
    | 1 => show (32 * (r.val / 32) + r.val % 32) % 512 = r.val; omega
    | 2 => rfl)

theorem codes3_apply : codes3 X g (ix3 0 r d) = rowC (fun k => X (ix3 0 r k)) (fun k => g (ix2 0 k)) d :=
  (rowCodes3_apply _ g ⟨r.val % 32, Nat.mod_lt _ (by decide)⟩ d).trans (congrArg (fun u => rowC u (fun k => g (ix2 0 k)) d) (xRows_row X r))
theorem codes2_apply : codes2 X g (ix2 r d) = rowC (fun k => X (ix3 0 r k)) (fun k => g (ix2 0 k)) d :=
  (rowCodes_apply _ g ⟨r.val % 32, Nat.mod_lt _ (by decide)⟩ d).trans (congrArg (fun u => rowC u (fun k => g (ix2 0 k)) d) (xRows_row X r))
theorem scales2_apply : scales2 X g (ix2 r l) = rowS (fun k => X (ix3 0 r k)) (fun k => g (ix2 0 k)) :=
  (rowScales_apply _ g ⟨r.val % 32, Nat.mod_lt _ (by decide)⟩ l).trans (congrArg (fun u => rowS u fun k => g (ix2 0 k)) (xRows_row X r))
end

/-! ## The scales as a row of lanes -/

theorem diag_sum (f : Fin 128 → EReal) (n : ℕ) (h : n < 128) :
    ∑ k : Fin 128, Scalar.select (IntOp.cmpi .eq (BitVec.ofNat 32 k.val) (BitVec.ofNat 32 n)) (f k) (0 : EReal) = f ⟨n, h⟩ := by
  rw [Finset.sum_eq_single ⟨n, h⟩]
  · simp [Scalar.select, IntOp.cmpi]
  · intro k _ hk
    have hne : ¬ BitVec.ofNat 32 k.val = BitVec.ofNat 32 n := fun e => hk (Fin.ext (by
      have := congrArg BitVec.toNat e
      have hk' := k.isLt
      simp only [BitVec.toNat_ofNat] at this
      show k.val = n
      omega))
    have hb : (BitVec.ofNat 32 k.val == BitVec.ofNat 32 n) = false := beq_eq_false_iff_ne.2 hne
    simp only [Scalar.select, IntOp.cmpi, hb]
    rfl
  · intro h'; exact absurd (Finset.mem_univ _) h'

theorem lanes_apply (R : Vec Ideal S512x128 .f32) (r : Fin 512) : lanes R (ix2 0 r) = R (ix2 r 0) := by
  have hr := r.isLt
  pointwise [lanes, k0_pay23]
  split
  · rename_i h
    exact (diag_sum (fun k => R (ix2 ⟨k.val, _⟩ 0)) r.val h)
  · split
    · rename_i h0 h
      refine (diag_sum (fun k => R (ix2 ⟨128 + k.val, _⟩ 0)) (r.val - 128) h).trans (congrArg (fun i => R (ix2 i 0)) (Fin.ext ?_))
      show 128 + (r.val - 128) = r.val; omega
    · split
      · rename_i h0 h1 h
        refine (diag_sum (fun k => R (ix2 ⟨256 + k.val, _⟩ 0)) (r.val - 128 - 128) h).trans (congrArg (fun i => R (ix2 i 0)) (Fin.ext ?_))
        show 256 + (r.val - 128 - 128) = r.val; omega
      · rename_i h0 h1 h2
        refine (diag_sum (fun k => R (ix2 ⟨384 + k.val, _⟩ 0)) (r.val - 128 - 128 - 128) (by omega)).trans (congrArg (fun i => R (ix2 i 0)) (Fin.ext ?_))
        show 384 + (r.val - 128 - 128 - 128) = r.val; omega

/-! ## The products -/

theorem pay3_apply (C : Vec Ideal S512x2048 .fp8e4m3) (W : Vec Ideal S2048x256 .fp8e4m3) (R : Vec Ideal S512x128 .f32) (s : Vec Ideal S1x256 .f32) (r : Fin 512) (d : Fin 256) {q : EReal}
    (hR : ∀ l, R (ix2 r l) = q) : k0_pay3 C W R s (ix3 0 r d) = (∑ k : Fin 2048, C (ix2 r k) * W (ix2 k d)) * q * s (ix2 0 d) := by
  pointwise [k0_pay3]
  split
  · rw [hR]
  · rw [hR]

theorem proj_apply (X : Vec Ideal S1x512x2048 .bf16) (g : Vec Ideal S1x2048 .f32) (W : Vec Ideal S2048x2048 .fp8e4m3) (s : Vec Ideal S1x2048 .f32) (r : Fin 512) (d : Fin 2048) :
    proj (codes2 X g) W (scales2 X g) s (ix3 0 r d) = rowP (fun k => X (ix3 0 r k)) (fun k => g (ix2 0 k)) (fun k => W (ix2 k d)) (s (ix2 0 d)) := by
  have hd : (⟨(256 * (d.val / 256) + d.val % 256) % 2048, Nat.mod_lt _ (by decide)⟩ : Fin 2048) = d := Fin.ext (by have := d.isLt; show (256 * (d.val / 256) + d.val % 256) % 2048 = d.val; omega)
  refine (pay3_apply (codes2 X g) (wCols W (d.val / 256)) (scales2 X g) (sCols s (d.val / 256)) r ⟨d.val % 256, Nat.mod_lt _ (by decide)⟩ (scales2_apply X g r)).trans ?_
  unfold rowP
  refine congrArg₂ _ (congrArg₂ _ (Finset.sum_congr rfl fun k _ => congrArg₂ _ (codes2_apply X g r k) (congrArg (fun i => W (ix2 k i)) hd)) rfl) (congrArg (fun i => s (ix2 0 i)) hd)

end Cert.KernelIdeal.Tile

end
-- ==== Proof.RefRun.lean ====
/-
  The reference's run: each result array is its function of the argument arrays, and the arguments are unchanged.
  The reference is one call whose every block is its whole array.
-/
module

public import proofs.«01_k».proof.Proof.Gen.ReferenceIdeal.Frame
public import Idealize.ShloMosaic.Lib.Pipeline.Value

@[expose] public section

noncomputable section

namespace Cert.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## A block is its array -/

theorem emb0 (t : Fin cfg0.N) (j : S4x8192x2048.Idx) : ((cfg0.win 0).blk t).view.emb j = j := by
  obtain ⟨e0, e1, e2⟩ := (by decide +kernel : ∀ t : Fin grid0.N, win0_0.index t (0 : Fin 3) = 0 ∧ win0_0.index t (1 : Fin 3) = 0 ∧ win0_0.index t (2 : Fin 3) = 0) t
  refine funext fun a => Fin.ext ?_
  match a with
  | ⟨0, _⟩ => show win0_0.index t (0 : Fin 3) * 4 + 1 * (j 0).val = (j 0).val; omega
  | ⟨1, _⟩ => show win0_0.index t (1 : Fin 3) * 8192 + 1 * (j 1).val = (j 1).val; omega
  | ⟨2, _⟩ => show win0_0.index t (2 : Fin 3) * 2048 + 1 * (j 2).val = (j 2).val; omega
theorem emb1 (t : Fin cfg0.N) (j : S1x2048.Idx) : ((cfg0.win 1).blk t).view.emb j = j := by
  obtain ⟨e0, e1⟩ := (by decide +kernel : ∀ t : Fin grid0.N, win0_1.index t (0 : Fin 2) = 0 ∧ win0_1.index t (1 : Fin 2) = 0) t
  refine funext fun a => Fin.ext ?_
  match a with
  | ⟨0, _⟩ => show win0_1.index t (0 : Fin 2) * 1 + 1 * (j 0).val = (j 0).val; omega
  | ⟨1, _⟩ => show win0_1.index t (1 : Fin 2) * 2048 + 1 * (j 1).val = (j 1).val; omega
theorem emb2 (t : Fin cfg0.N) (j : S2048x2048.Idx) : ((cfg0.win 2).blk t).view.emb j = j := by
  obtain ⟨e0, e1⟩ := (by decide +kernel : ∀ t : Fin grid0.N, win0_2.index t (0 : Fin 2) = 0 ∧ win0_2.index t (1 : Fin 2) = 0) t
  refine funext fun a => Fin.ext ?_
  match a with
  | ⟨0, _⟩ => show win0_2.index t (0 : Fin 2) * 2048 + 1 * (j 0).val = (j 0).val; omega
  | ⟨1, _⟩ => show win0_2.index t (1 : Fin 2) * 2048 + 1 * (j 1).val = (j 1).val; omega
theorem emb3 (t : Fin cfg0.N) (j : S2048x2048.Idx) : ((cfg0.win 3).blk t).view.emb j = j := by
  obtain ⟨e0, e1⟩ := (by decide +kernel : ∀ t : Fin grid0.N, win0_3.index t (0 : Fin 2) = 0 ∧ win0_3.index t (1 : Fin 2) = 0) t
  refine funext fun a => Fin.ext ?_
  match a with
  | ⟨0, _⟩ => show win0_3.index t (0 : Fin 2) * 2048 + 1 * (j 0).val = (j 0).val; omega
  | ⟨1, _⟩ => show win0_3.index t (1 : Fin 2) * 2048 + 1 * (j 1).val = (j 1).val; omega
theorem emb4 (t : Fin cfg0.N) (j : S1x2048.Idx) : ((cfg0.win 4).blk t).view.emb j = j := by
  obtain ⟨e0, e1⟩ := (by decide +kernel : ∀ t : Fin grid0.N, win0_4.index t (0 : Fin 2) = 0 ∧ win0_4.index t (1 : Fin 2) = 0) t
  refine funext fun a => Fin.ext ?_
  match a with
  | ⟨0, _⟩ => show win0_4.index t (0 : Fin 2) * 1 + 1 * (j 0).val = (j 0).val; omega
  | ⟨1, _⟩ => show win0_4.index t (1 : Fin 2) * 2048 + 1 * (j 1).val = (j 1).val; omega
theorem emb5 (t : Fin cfg0.N) (j : S1x2048.Idx) : ((cfg0.win 5).blk t).view.emb j = j := by
  obtain ⟨e0, e1⟩ := (by decide +kernel : ∀ t : Fin grid0.N, win0_5.index t (0 : Fin 2) = 0 ∧ win0_5.index t (1 : Fin 2) = 0) t
  refine funext fun a => Fin.ext ?_
  match a with
  | ⟨0, _⟩ => show win0_5.index t (0 : Fin 2) * 1 + 1 * (j 0).val = (j 0).val; omega
  | ⟨1, _⟩ => show win0_5.index t (1 : Fin 2) * 2048 + 1 * (j 1).val = (j 1).val; omega
theorem emb6 (t : Fin cfg0.N) (j : S4x8192x2048.Idx) : ((cfg0.win 6).blk t).view.emb j = j := by
  obtain ⟨e0, e1, e2⟩ := (by decide +kernel : ∀ t : Fin grid0.N, win0_6.index t (0 : Fin 3) = 0 ∧ win0_6.index t (1 : Fin 3) = 0 ∧ win0_6.index t (2 : Fin 3) = 0) t
  refine funext fun a => Fin.ext ?_
  match a with
  | ⟨0, _⟩ => show win0_6.index t (0 : Fin 3) * 4 + 1 * (j 0).val = (j 0).val; omega
  | ⟨1, _⟩ => show win0_6.index t (1 : Fin 3) * 8192 + 1 * (j 1).val = (j 1).val; omega
  | ⟨2, _⟩ => show win0_6.index t (2 : Fin 3) * 2048 + 1 * (j 2).val = (j 2).val; omega
theorem emb7 (t : Fin cfg0.N) (j : S4x8192.Idx) : ((cfg0.win 7).blk t).view.emb j = j := by
  obtain ⟨e0, e1⟩ := (by decide +kernel : ∀ t : Fin grid0.N, win0_7.index t (0 : Fin 2) = 0 ∧ win0_7.index t (1 : Fin 2) = 0) t
  refine funext fun a => Fin.ext ?_
  match a with
  | ⟨0, _⟩ => show win0_7.index t (0 : Fin 2) * 4 + 1 * (j 0).val = (j 0).val; omega
  | ⟨1, _⟩ => show win0_7.index t (1 : Fin 2) * 8192 + 1 * (j 1).val = (j 1).val; omega
theorem emb8 (t : Fin cfg0.N) (j : S4x8192x2048.Idx) : ((cfg0.win 8).blk t).view.emb j = j := by
  obtain ⟨e0, e1, e2⟩ := (by decide +kernel : ∀ t : Fin grid0.N, win0_8.index t (0 : Fin 3) = 0 ∧ win0_8.index t (1 : Fin 3) = 0 ∧ win0_8.index t (2 : Fin 3) = 0) t
  refine funext fun a => Fin.ext ?_
  match a with
  | ⟨0, _⟩ => show win0_8.index t (0 : Fin 3) * 4 + 1 * (j 0).val = (j 0).val; omega
  | ⟨1, _⟩ => show win0_8.index t (1 : Fin 3) * 8192 + 1 * (j 1).val = (j 1).val; omega
  | ⟨2, _⟩ => show win0_8.index t (2 : Fin 3) * 2048 + 1 * (j 2).val = (j 2).val; omega
theorem emb9 (t : Fin cfg0.N) (j : S4x8192x2048.Idx) : ((cfg0.win 9).blk t).view.emb j = j := by
  obtain ⟨e0, e1, e2⟩ := (by decide +kernel : ∀ t : Fin grid0.N, win0_9.index t (0 : Fin 3) = 0 ∧ win0_9.index t (1 : Fin 3) = 0 ∧ win0_9.index t (2 : Fin 3) = 0) t
  refine funext fun a => Fin.ext ?_
  match a with
  | ⟨0, _⟩ => show win0_9.index t (0 : Fin 3) * 4 + 1 * (j 0).val = (j 0).val; omega
  | ⟨1, _⟩ => show win0_9.index t (1 : Fin 3) * 8192 + 1 * (j 1).val = (j 1).val; omega
  | ⟨2, _⟩ => show win0_9.index t (2 : Fin 3) * 2048 + 1 * (j 2).val = (j 2).val; omega

theorem iblk0 (c : Dev nD) (t : Fin cfg0.N) : iblk m c 0 t = V m c main_arg1 := funext fun j => congrArg (V m c main_arg1) (emb0 t j)
theorem iblk1 (c : Dev nD) (t : Fin cfg0.N) : iblk m c 1 t = V m c main_arg2 := funext fun j => congrArg (V m c main_arg2) (emb1 t j)
theorem iblk2 (c : Dev nD) (t : Fin cfg0.N) : iblk m c 2 t = V m c main_arg3 := funext fun j => congrArg (V m c main_arg3) (emb2 t j)
theorem iblk3 (c : Dev nD) (t : Fin cfg0.N) : iblk m c 3 t = V m c main_arg4 := funext fun j => congrArg (V m c main_arg4) (emb3 t j)
theorem iblk4 (c : Dev nD) (t : Fin cfg0.N) : iblk m c 4 t = V m c main_arg5 := funext fun j => congrArg (V m c main_arg5) (emb4 t j)
theorem iblk5 (c : Dev nD) (t : Fin cfg0.N) : iblk m c 5 t = V m c main_arg6 := funext fun j => congrArg (V m c main_arg6) (emb5 t j)
theorem cut6 (t : Fin cfg0.N) (X : Vec F S4x8192x2048 .fp8e4m3) : (cfg0.win 6).cut (grid0.coords t) X = ((cfg0.win 6).blk t).view.read (Elt F) X := by
  funext j
  show X j = X (((cfg0.win 6).blk t).view.emb j)
  rw [emb6]
theorem cut7 (t : Fin cfg0.N) (X : Vec F S4x8192 .f32) : (cfg0.win 7).cut (grid0.coords t) X = ((cfg0.win 7).blk t).view.read (Elt F) X := by
  funext j
  show X j = X (((cfg0.win 7).blk t).view.emb j)
  rw [emb7]
theorem cut8 (t : Fin cfg0.N) (X : Vec F S4x8192x2048 .bf16) : (cfg0.win 8).cut (grid0.coords t) X = ((cfg0.win 8).blk t).view.read (Elt F) X := by
  funext j
  show X j = X (((cfg0.win 8).blk t).view.emb j)
  rw [emb8]
theorem cut9 (t : Fin cfg0.N) (X : Vec F S4x8192x2048 .bf16) : (cfg0.win 9).cut (grid0.coords t) X = ((cfg0.win 9).blk t).view.read (Elt F) X := by
  funext j
  show X j = X (((cfg0.win 9).blk t).view.emb j)
  rw [emb9]

/-! ## The result arrays -/

variable (a1 : Vec F S4x8192x2048 .bf16) (a2 : Vec F S1x2048 .f32) (a3 a4 : Vec F S2048x2048 .fp8e4m3) (a5 a6 : Vec F S1x2048 .f32)

theorem pay7_eq : Gen.k0_pay7 a1 a2 a3 a4 a5 a6 = k0_pay5 a1 a2 := by
  unfold Gen.k0_pay7
  rw [View.ld_unit_zero (S := S4x8192x2048) hz3 _ a1, View.ld_unit_zero (S := S1x2048) hz2 _ a2]
theorem pay8_eq : Gen.k0_pay8 a1 a2 a3 a4 a5 a6 = k0_pay6 a1 a2 := by
  unfold Gen.k0_pay8
  rw [View.ld_unit_zero (S := S4x8192x2048) hz3 _ a1, View.ld_unit_zero (S := S1x2048) hz2 _ a2]

theorem out6 : out0_6 (F := F) a1 a2 a3 a4 a5 a6 = k0_pay6 a1 a2 := by
  unfold out0_6
  rw [View.canon_unit_zero hz3, pay8_eq]
theorem final6 (c : Dev nD) : (dats m 0 c).arrAt 6 cfg0.N = k0_pay6 (V m c main_arg1) (V m c main_arg2) :=
  (dats m 0 c).arrAt_eq_of_cover 6 _ (fun t _ => by
    show (cfg0.win 6).cut (grid0.coords t) ((dats m 0 c).after 6 t) = _
    rw [after0_6, out6, iblk0, iblk1]
    exact cut6 t _)
    fun i => ⟨(⟨0, by decide⟩ : Fin cfg0.N), flush0_6 _, by have h := ((cfg0.win 6).blk (⟨0, by decide⟩ : Fin cfg0.N)).view.emb_mem_set i; rwa [emb6] at h⟩

theorem out7 : out0_7 (F := F) a1 a2 a3 a4 a5 a6 = k0_pay5 a1 a2 := by
  unfold out0_7
  rw [View.canon_unit_zero hz2, pay7_eq]
theorem final7 (c : Dev nD) : (dats m 0 c).arrAt 7 cfg0.N = k0_pay5 (V m c main_arg1) (V m c main_arg2) :=
  (dats m 0 c).arrAt_eq_of_cover 7 _ (fun t _ => by
    show (cfg0.win 7).cut (grid0.coords t) ((dats m 0 c).after 7 t) = _
    rw [after0_7, out7, iblk0, iblk1]
    exact cut7 t _)
    fun i => ⟨(⟨0, by decide⟩ : Fin cfg0.N), flush0_7 _, by have h := ((cfg0.win 7).blk (⟨0, by decide⟩ : Fin cfg0.N)).view.emb_mem_set i; rwa [emb7] at h⟩

theorem out8 : out0_8 (F := F) a1 a2 a3 a4 a5 a6 = k0_pay1 (k0_pay5 a1 a2) (k0_pay6 a1 a2) a3 a5 := by
  unfold out0_8
  rw [View.canon_unit_zero hz3, View.ld_unit_zero (S := S2048x2048) hz2 _ a3, View.ld_unit_zero (S := S1x2048) hz2 _ a5, pay7_eq, pay8_eq]
theorem final8 (c : Dev nD) : (dats m 0 c).arrAt 8 cfg0.N = k0_pay1 (k0_pay5 (V m c main_arg1) (V m c main_arg2)) (k0_pay6 (V m c main_arg1) (V m c main_arg2)) (V m c main_arg3) (V m c main_arg5) :=
  (dats m 0 c).arrAt_eq_of_cover 8 _ (fun t _ => by
    show (cfg0.win 8).cut (grid0.coords t) ((dats m 0 c).after 8 t) = _
    rw [after0_8, out8, iblk0, iblk1, iblk2, iblk4]
    exact cut8 t _)
    fun i => ⟨(⟨0, by decide⟩ : Fin cfg0.N), flush0_8 _, by have h := ((cfg0.win 8).blk (⟨0, by decide⟩ : Fin cfg0.N)).view.emb_mem_set i; rwa [emb8] at h⟩

theorem out9 : out0_9 (F := F) a1 a2 a3 a4 a5 a6 = k0_pay2 (k0_pay5 a1 a2) (k0_pay6 a1 a2) a4 a6 := by
  unfold out0_9
  rw [View.canon_unit_zero hz3, View.ld_unit_zero (S := S2048x2048) hz2 _ a4, View.ld_unit_zero (S := S1x2048) hz2 _ a6, pay7_eq, pay8_eq]
theorem final9 (c : Dev nD) : (dats m 0 c).arrAt 9 cfg0.N = k0_pay2 (k0_pay5 (V m c main_arg1) (V m c main_arg2)) (k0_pay6 (V m c main_arg1) (V m c main_arg2)) (V m c main_arg4) (V m c main_arg6) :=
  (dats m 0 c).arrAt_eq_of_cover 9 _ (fun t _ => by
    show (cfg0.win 9).cut (grid0.coords t) ((dats m 0 c).after 9 t) = _
    rw [after0_9, out9, iblk0, iblk1, iblk3, iblk5]
    exact cut9 t _)
    fun i => ⟨(⟨0, by decide⟩ : Fin cfg0.N), flush0_9 _, by have h := ((cfg0.win 9).blk (⟨0, by decide⟩ : Fin cfg0.N)).view.emb_mem_set i; rwa [emb9] at h⟩

/-- THE RUN. -/
theorem run : θ_run defs (onTc (τ := τ) (main (F := F))) ⟨m, fun _ => 0, ρ⟩ fun r => (∀ c : Dev nD,
      r.2.mem ((c : Thread nD τ).loc main_v0_0) = k0_pay6 (V m c main_arg1) (V m c main_arg2)
      ∧ r.2.mem ((c : Thread nD τ).loc main_v0_1) = k0_pay5 (V m c main_arg1) (V m c main_arg2)
      ∧ r.2.mem ((c : Thread nD τ).loc main_v0_2) = k0_pay1 (k0_pay5 (V m c main_arg1) (V m c main_arg2)) (k0_pay6 (V m c main_arg1) (V m c main_arg2)) (V m c main_arg3) (V m c main_arg5)
      ∧ r.2.mem ((c : Thread nD τ).loc main_v0_3) = k0_pay2 (k0_pay5 (V m c main_arg1) (V m c main_arg2)) (k0_pay6 (V m c main_arg1) (V m c main_arg2)) (V m c main_arg4) (V m c main_arg6)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c => ⟨((h c).1 6).trans (final6 m c), ((h c).1 7).trans (final7 m c), ((h c).1 8).trans (final8 m c), ((h c).1 9).trans (final9 m c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c)))⟩)
    (run_main m ρ)

end Cert.RefRun

end
-- ==== Proof.Results.lean ====
/-
  The kernel's results are the reference's: the codes and scales everywhere, the keys and values at the covered bytes.
-/
module

public import proofs.«01_k».proof.Proof.Arrays
public import proofs.«01_k».proof.Proof.TileRows
public import proofs.«01_k».proof.Proof.RefRun
public import proofs.«01_k».proof.Proof.Bridge

@[expose] public section

set_option maxRecDepth 16384

noncomputable section

namespace Cert.KernelIdeal.Tile

open Cert.KernelIdeal Cert.KernelIdeal.Gen Cert.Rows
open Idealize.ShloMosaic Idealize.ShloMosaic.TcCoe

variable (m : (ℓ : Loc nD τ sig) → Buf (Elt Ideal) ℓ) (c : Dev nD)

/-- The arguments. -/
abbrev aX : Vec Ideal S4x8192x2048 .bf16 := V m c main_arg1
abbrev aG : Vec Ideal S1x2048 .f32 := V m c main_arg2
abbrev aWk : Vec Ideal S2048x2048 .fp8e4m3 := V m c main_arg3
abbrev aWv : Vec Ideal S2048x2048 .fp8e4m3 := V m c main_arg4
abbrev aSk : Vec Ideal S1x2048 .f32 := V m c main_arg5
abbrev aSv : Vec Ideal S1x2048 .f32 := V m c main_arg6
abbrev aC : Vec Ideal S4 .i32 := V m 0 main_arg0

/-- What the reference's results hold. -/
abbrev rC : Vec Ideal S4x8192x2048 .fp8e4m3 := Cert.ReferenceIdeal.Gen.k0_pay6 (aX m c) (aG m c)
abbrev rS : Vec Ideal S4x8192 .f32 := Cert.ReferenceIdeal.Gen.k0_pay5 (aX m c) (aG m c)
abbrev rK : Vec Ideal S4x8192x2048 .bf16 := Cert.ReferenceIdeal.Gen.k0_pay1 (rS m c) (rC m c) (aWk m c) (aSk m c)
abbrev rV : Vec Ideal S4x8192x2048 .bf16 := Cert.ReferenceIdeal.Gen.k0_pay2 (rS m c) (rC m c) (aWv m c) (aSv m c)

/-- A tile's row is a row of the embeddings. -/
theorem tile_row (b : Fin 4) (s : Fin 8192) (u : Fin grid0.N) (hu : u.val = 16 * b.val + s.val / 512) :
    (fun k : Fin 2048 => xb m c u (ix3 0 (⟨s.val % 512, Nat.mod_lt _ (by decide)⟩ : Fin 512) k)) = rowX (aX m c) b s := by
  have hb := b.isLt
  have hs := s.isLt
  have hu64 : u.val < 64 := by omega
  funext k
  refine (xb_apply m c u hu64 _ k).trans (congrArg (aX m c) (funext fun a => Fin.ext ?_))
  match a with
  | ⟨0, _⟩ => show u.val / 16 = b.val; omega
  | ⟨1, _⟩ => show 512 * (u.val % 16) + s.val % 512 = s.val; omega
  | ⟨2, _⟩ => rfl

/-- The tile of a byte. -/
def tileOf (b : Fin 4) (s : Fin 8192) : Fin grid0.N := ⟨16 * b.val + s.val / 512, by show _ < 65; have := b.isLt; have := s.isLt; omega⟩

theorem cT_apply (b : Fin 4) (s : Fin 8192) (d : Fin 2048) : cT m c (tileOf b s) (inTile (ix3 b s d)) = rC m c (ix3 b s d) := by
  rw [rC, Cert.Rows.pay6_apply, ← tile_row m c b s (tileOf b s) rfl]
  exact codes3_apply _ _ _ _
theorem sT_apply (b : Fin 4) (s : Fin 8192) : sT m c (tileOf b s) (ix2 0 (⟨s.val % 512, Nat.mod_lt _ (by decide)⟩ : Fin 512)) = rS m c (ix2 b s) := by
  rw [rS, Cert.Rows.pay5_apply, ← tile_row m c b s (tileOf b s) rfl]
  unfold sT
  rw [lanes_apply, ts, scales2_apply, gb_eq]

theorem kT_apply (b : Fin 4) (s : Fin 8192) (d : Fin 2048) : kT m c (tileOf b s) (inTile (ix3 b s d)) = rK m c (ix3 b s d) := by
  have e : rK m c (ix3 b s d) = rowP (rowX (aX m c) b s) (rowG (aG m c)) (fun k => aWk m c (ix2 k d)) (aSk m c (ix2 0 d)) := by
    rw [rK, Cert.Rows.pay1_apply]
    unfold rowP
    simp only [rS, rC, Cert.Rows.pay5_apply, Cert.Rows.pay6_apply]
  rw [e, ← tile_row m c b s (tileOf b s) rfl]
  unfold kT
  rw [tc, ts, gb_eq]
  exact proj_apply _ _ _ _ _ _
theorem vT_apply (b : Fin 4) (s : Fin 8192) (d : Fin 2048) : vT m c (tileOf b s) (inTile (ix3 b s d)) = rV m c (ix3 b s d) := by
  have e : rV m c (ix3 b s d) = rowP (rowX (aX m c) b s) (rowG (aG m c)) (fun k => aWv m c (ix2 k d)) (aSv m c (ix2 0 d)) := by
    rw [rV, pay2_eq, Cert.Rows.pay1_apply]
    unfold rowP
    simp only [rS, rC, Cert.Rows.pay5_apply, Cert.Rows.pay6_apply]
  rw [e, ← tile_row m c b s (tileOf b s) rfl]
  unfold vT
  rw [tc, ts, gb_eq]
  exact proj_apply _ _ _ _ _ _

section
variable {r : PUnit × MemSt nD τ sig (Elt Ideal)} (h : Pipeline.RDat.FramePost ((Pipeline.pin pcfgs fun _ => adm m) 0) (rdat m) (V m) r)
include h

theorem codes_eq (i : S4x8192x2048.Idx) : (show Vec Ideal S4x8192x2048 .fp8e4m3 from r.2.mem ((c.tc : Thread nD τ).loc main_v0_0)) i = rC m c i := by
  rw [← ix3_eta i]
  exact (codes_at m h c (ix3 (i 0) (i 1) (i 2)) (tileOf (i 0) (i 1)) rfl).trans (cT_apply m c _ _ _)
theorem scales_eq (i : S4x8192.Idx) : (show Vec Ideal S4x8192 .f32 from r.2.mem ((c.tc : Thread nD τ).loc main_v0_1)) i = rS m c i := by
  rw [← ix2_eta i]
  exact (scales_at m h c (ix2 (i 0) (i 1)) (tileOf (i 0) (i 1)) rfl).trans (sT_apply m c _ _)
theorem keys_eq (i : S4x8192x2048.Idx) (hc : Cov (aC m (ix1 (i 0)))) (hi : (i 1).val < (aC m (ix1 (i 0))).toNat) :
    (show Vec Ideal S4x8192x2048 .bf16 from r.2.mem ((c.tc : Thread nD τ).loc main_v0_2)) i = rK m c i := by
  rw [← ix3_eta i]
  exact (keys_at m h c (ix3 (i 0) (i 1) (i 2)) (tileOf (i 0) (i 1)) rfl hc hi).trans (kT_apply m c _ _ _)
theorem vals_eq (i : S4x8192x2048.Idx) (hc : Cov (aC m (ix1 (i 0)))) (hi : (i 1).val < (aC m (ix1 (i 0))).toNat) :
    (show Vec Ideal S4x8192x2048 .bf16 from r.2.mem ((c.tc : Thread nD τ).loc main_v0_3)) i = rV m c i := by
  rw [← ix3_eta i]
  exact (vals_at m h c (ix3 (i 0) (i 1) (i 2)) (tileOf (i 0) (i 1)) rfl hc hi).trans (vT_apply m c _ _ _)
end

end Cert.KernelIdeal.Tile

end
-- ==== Proof.Mask.lean ====
/-
  The mask: a byte of a sequence is covered when its position is below the sequence's length, the lengths at most 8192.
-/
module

public import proofs.«01_k».proof.On_covered
public import Idealize.ShloMosaic.Lib.Pointwise

@[expose] public section

noncomputable section

namespace Cert.Mask

open Idealize.ShloMosaic Cert.On_covered

theorem facts : Cert.On_covered.Facts := by constructor <;> decide

theorem words (s : ℕ) (hs : s < 8192) (v : BitVec 32) (h : IntOp.andi (IntOp.cmpi .slt (BitVec.ofNat 32 s) v) (IntOp.cmpi .sle v 8192#32) = 1#1) :
    (0 < v.toNat ∧ v.toNat ≤ 8192) ∧ s < v.toNat := by
  have h1 : IntOp.cmpi .slt (BitVec.ofNat 32 s) v = 1#1 ∧ IntOp.cmpi .sle v 8192#32 = 1#1 :=
    (by decide : ∀ p q : BitVec 1, IntOp.andi p q = 1#1 → p = 1#1 ∧ q = 1#1) _ _ h
  have hn : (BitVec.ofNat 32 s).toNat = s := by rw [BitVec.toNat_ofNat]; omega
  have hb : ∀ b : Bool, BitVec.ofBool b = 1#1 → b = true := by decide
  have h2 : (BitVec.ofNat 32 s).slt v = true := hb _ h1.1
  have h3 : v.sle 8192#32 = true := hb _ h1.2
  simp only [BitVec.slt, BitVec.sle, BitVec.toInt_eq_toNat_cond, decide_eq_true_eq, hn] at h2 h3
  have h4 : (8192#32).toNat = 8192 := rfl
  rw [h4] at h3
  have := v.isLt
  split at h2 <;> split at h2 <;> split at h3 <;> omega

variable [Cert.On_covered.Facts] {F : FTy → Type} [FloatOps F]
variable (a0 : IVec S4 32) (a1 : FVec F S4x8192x2048 .bf16) (a2 : FVec F S1x2048 .f32) (a3 a4 : FVec F S2048x2048 .fp8e4m3) (a5 a6 : FVec F S1x2048 .f32)

theorem keys (b : Fin 4) (s : Fin 8192) (d : Fin 2048) (h : (fn (F := F) a0 a1 a2 a3 a4 a5 a6).2.2.1 (ix3 b s d) = 1#1) :
    (0 < (a0 (ix1 b)).toNat ∧ (a0 (ix1 b)).toNat ≤ 8192) ∧ s.val < (a0 (ix1 b)).toNat := by
  refine words s.val s.isLt _ ?_
  rw [← h]
  unfold fn
  pointwise
theorem vals (b : Fin 4) (s : Fin 8192) (d : Fin 2048) (h : (fn (F := F) a0 a1 a2 a3 a4 a5 a6).2.2.2 (ix3 b s d) = 1#1) :
    (0 < (a0 (ix1 b)).toNat ∧ (a0 (ix1 b)).toNat ≤ 8192) ∧ s.val < (a0 (ix1 b)).toNat :=
  keys a0 a1 a2 a3 a4 a5 a6 b s d h

end Cert.Mask

end
-- ==== Proof.Algebraic.lean ====
/-
  The claim about the values: the kernel and the reference, run from the same arguments over the extended reals, leave the
  same codes and scales, and the same keys and values at every covered byte.
-/
module

public import proofs.«01_k».proof.Proof.Results
public import proofs.«01_k».proof.Proof.Mask
public import proofs.«01_k».proof.Defs

@[expose] public section

set_option maxRecDepth 16384

noncomputable section

namespace Cert.Algebraic

open Idealize.ShloMosaic Idealize.SL.Sem Cert.KernelIdeal.Tile

theorem on_core (m : (ℓ : Loc Cert.KernelIdeal.nD Cert.KernelIdeal.τ Cert.KernelIdeal.sig) → Buf (Elt Ideal) ℓ) (c : Dev Cert.KernelIdeal.nD) :
    (m ((c.tc : Thread Cert.KernelIdeal.nD Cert.KernelIdeal.τ).loc Cert.KernelIdeal.main_arg0) : IVec Cert.On_covered.S4 32) = aC m := by
  obtain rfl : c = 0 := Subsingleton.elim _ _
  rfl

theorem algebraic : @Cert.algebraic_KernelIdeal_ReferenceIdeal_on_covered Cert.KernelIdeal.Gen.facts Cert.ReferenceIdeal.Gen.facts Cert.Mask.facts := by
  intro m g m' g' _ hagree
  refine ⟨fun c => rC m c, fun c => rS m c, fun c => rK m c, fun c => rV m c, ?_, ?_⟩
  · refine (θ_run _ _ _).mono (fun r h c => ?_) (run_main_quiescent (F := Ideal) m g)
    refine ⟨fun i _ => codes_eq m c h.1 i, fun i _ => scales_eq m c h.1 i, fun i hi => ?_, fun i hi => ?_, args_kept m h.1 c⟩
    · rw [← ix3_eta i] at hi
      have hm := @Cert.Mask.keys Cert.Mask.facts Ideal _ _ _ _ _ _ _ _ (i 0) (i 1) (i 2) hi
      rw [on_core m c] at hm
      exact keys_eq m c h.1 i hm.1 hm.2
    · rw [← ix3_eta i] at hi
      have hm := @Cert.Mask.vals Cert.Mask.facts Ideal _ _ _ _ _ _ _ _ (i 0) (i 1) (i 2) hi
      rw [on_core m c] at hm
      exact vals_eq m c h.1 i hm.1 hm.2
  · refine (θ_run _ _ _).mono (fun r h c => ?_) (Cert.RefRun.run (F := Ideal) m' g')
    obtain ⟨e0, e1, e2, e3, e4, e5, e6⟩ := hagree c
    obtain ⟨h0, h1, h2, h3, hk⟩ := h c
    have f1 : Cert.ReferenceIdeal.Gen.V m' c Cert.ReferenceIdeal.main_arg1 = aX m c := e1
    have f2 : Cert.ReferenceIdeal.Gen.V m' c Cert.ReferenceIdeal.main_arg2 = aG m c := e2
    have f3 : Cert.ReferenceIdeal.Gen.V m' c Cert.ReferenceIdeal.main_arg3 = aWk m c := e3
    have f4 : Cert.ReferenceIdeal.Gen.V m' c Cert.ReferenceIdeal.main_arg4 = aWv m c := e4
    have f5 : Cert.ReferenceIdeal.Gen.V m' c Cert.ReferenceIdeal.main_arg5 = aSk m c := e5
    have f6 : Cert.ReferenceIdeal.Gen.V m' c Cert.ReferenceIdeal.main_arg6 = aSv m c := e6
    rw [f1, f2] at h0 h1 h2 h3
    rw [f3, f5] at h2
    rw [f4, f6] at h3
    exact ⟨fun i _ => congrFun h0 i, fun i _ => congrFun h1 i, fun i _ => congrFun h2 i, fun i _ => congrFun h3 i, hk⟩

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Bridge
public import proofs.«01_k».proof.Proof.Gen.ReferenceIdeal
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Mask.facts, Cert.Bridge.kernel_frame, Cert.Bridge.kernelIdeal_frame,
  fun m g _ => Cert.ReferenceIdeal.Gen.frame m g, trivial, Cert.Algebraic.algebraic⟩

end Cert.Proof

end
